-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "big" .f32 0x7149F2CA#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x3x1024 : Shape := ⟨3, ![16, 3, 1024]⟩
abbrev S16x3x4096 : Shape := ⟨3, ![16, 3, 4096]⟩
abbrev S16x512x1024 : Shape := ⟨3, ![16, 512, 1024]⟩
abbrev S16x256x4096 : Shape := ⟨3, ![16, 256, 4096]⟩
abbrev S512x768 : Shape := ⟨2, ![512, 768]⟩
abbrev S512 : Shape := ⟨1, ![512]⟩
abbrev S256x512 : Shape := ⟨2, ![256, 512]⟩
abbrev S256 : Shape := ⟨1, ![256]⟩
abbrev S_ : Shape := ⟨0, ![]⟩

class Facts : Prop where
  bcast_S_S16x3x1024 : S_.BroadcastsInDim S16x3x1024 (![] : Fin 0 → Fin S16x3x1024.rank)
  reducesTo_S16x3x1024_S_d0_1_2 : S16x3x1024.ReducesTo [0, 1, 2] S_
  h_S_ : 0 < S_.numel
  bcast_S_S16x3x4096 : S_.BroadcastsInDim S16x3x4096 (![] : Fin 0 → Fin S16x3x4096.rank)
  reducesTo_S16x3x4096_S_d0_1_2 : S16x3x4096.ReducesTo [0, 1, 2] S_
  bcast_S_S16x512x1024 : S_.BroadcastsInDim S16x512x1024 (![] : Fin 0 → Fin S16x512x1024.rank)
  reducesTo_S16x512x1024_S_d0_1_2 : S16x512x1024.ReducesTo [0, 1, 2] S_
  bcast_S_S16x256x4096 : S_.BroadcastsInDim S16x256x4096 (![] : Fin 0 → Fin S16x256x4096.rank)
  reducesTo_S16x256x4096_S_d0_1_2 : S16x256x4096.ReducesTo [0, 1, 2] S_
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S512 .f32) (main_arg8 : FVec F S256x512 .f32) (main_arg9 : FVec F S256 .f32) (main_arg10 : FVec F S256 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S256x512 .f32 := Host.absf main_arg8
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S512x768 .f32) (main_arg5 : FVec F S512 .f32) (main_arg6 : FVec F S512 .f32) (main_arg7 : FVec F S512 .f32) (main_arg8 : FVec F S256x512 .f32) (main_arg9 : FVec F S256 .f32) (main_arg10 : FVec F S256 .f32) (main_v13 : IVec S_ 1) (main_v16 : IVec S16x256x4096 1) : IVec S_ 1 :=
  let main_c_5 : IVec S_ 1 := constantI S_ 1 1#1
  let main_v17 : IVec S_ 1 := (fun x v => Host.reduce IntOp.andi x v reducesTo_S16x256x4096_S_d0_1_2 h_S_) main_v16 main_c_5
  let main_v18 : IVec S_ 1 := andi main_v13 main_v17
  let main_v19 : FVec F S512x768 .f32 := Host.absf main_arg4
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16x3x1024 .f32) (main_arg1 : FVec F S16x3x4096 .f32) (main_arg2 : FVec F S16x512x1024 .f32) (main_arg3 : FVec F S16x256x4096 .f32) (main_arg4 : FVec F S512x768 .f32) (main_arg5 : FVec F S512 .f32) (main_arg6 : FVec F S512 .f32) (main_arg7 : FVec F S512 .f32) (main_arg8 : FVec F S256x512 .f32) (main_arg9 : FVec F S256 .f32) (main_arg10 : FVec F S256 .f32) (main_arg11 : FVec F S256 .f32) : IVec S_ 1 :=
  let main_v0 : FVec F S16x3x1024 .f32 := Host.absf main_arg0
  let main_cst : FVec F S_ .f32 := constant S_ .f32 0x7F800000#32
  let main_v1 : FVec F S16x3x1024 .f32 := broadcastInDim S16x3x1024 ![] bcast_S_S16x3x1024 main_cst
  let main_v2 : IVec S16x3x1024 1 := cmpf .olt main_v0 main_v1
  let main_c : IVec S_ 1 := constantI S_ 1 1#1
  let main_v3 : IVec S_ 1 := (fun x v => Host.reduce IntOp.andi x v reducesTo_S16x3x1024_S_d0_1_2 h_S_) main_v2 main_c
  let main_v4 : FVec F S16x3x4096 .f32 := Host.absf main_arg1
  let main_cst_0 : FVec F S_ .f32 := constant S_ .f32 0x7F800000#32
  let main_v5 : FVec F S16x3x4096 .f32 := broadcastInDim S16x3x4096 ![] bcast_S_S16x3x4096 main_cst_0
  let main_v6 : IVec S16x3x4096 1 := cmpf .olt main_v4 main_v5
  let main_c_1 : IVec S_ 1 := constantI S_ 1 1#1
  let main_v7 : IVec S_ 1 := (fun x v => Host.reduce IntOp.andi x v reducesTo_S16x3x4096_S_d0_1_2 h_S_) main_v6 main_c_1
  let main_v8 : IVec S_ 1 := andi main_v3 main_v7
  let main_v9 : FVec F S16x512x1024 .f32 := Host.absf main_arg2
  let main_cst_2 : FVec F S_ .f32 := constant S_ .f32 0x7F800000#32
  let main_v10 : FVec F S16x512x1024 .f32 := broadcastInDim S16x512x1024 ![] bcast_S_S16x512x1024 main_cst_2
  let main_v11 : IVec S16x512x1024 1 := cmpf .olt main_v9 main_v10
  let main_c_3 : IVec S_ 1 := constantI S_ 1 1#1
  let main_v12 : IVec S_ 1 := (fun x v => Host.reduce IntOp.andi x v reducesTo_S16x512x1024_S_d0_1_2 h_S_) main_v11 main_c_3
  let main_v13 : IVec S_ 1 := andi main_v8 main_v12
  let main_v14 : FVec F S16x256x4096 .f32 := Host.absf main_arg3
  let main_cst_4 : FVec F S_ .f32 := constant S_ .f32 0x7F800000#32
  let main_v15 : FVec F S16x256x4096 .f32 := broadcastInDim S16x256x4096 ![] bcast_S_S16x256x4096 main_cst_4
  let main_v16 : IVec S16x256x4096 1 := cmpf .olt main_v14 main_v15
  fn_part1 (F := F) main_arg4 main_arg5 main_arg6 main_arg7 main_arg8 main_arg9 main_arg10 main_v13 main_v16
-- ==== Kernel.lean ====
abbrev S16x3x1024 : Shape := ⟨3, ![16, 3, 1024]⟩
abbrev S16x3x4096 : Shape := ⟨3, ![16, 3, 4096]⟩
abbrev S16x512x1024 : Shape := ⟨3, ![16, 512, 1024]⟩
abbrev S16x256x4096 : Shape := ⟨3, ![16, 256, 4096]⟩
abbrev S512x768 : Shape := ⟨2, ![512, 768]⟩
abbrev S512 : Shape := ⟨1, ![512]⟩
abbrev S256x512 : Shape := ⟨2, ![256, 512]⟩
abbrev S256 : Shape := ⟨1, ![256]⟩
abbrev S16x4096x3 : Shape := ⟨3, ![16, 4096, 3]⟩
abbrev S512x1 : Shape := ⟨2, ![512, 1]⟩
abbrev S256x1 : Shape := ⟨2, ![256, 1]⟩
abbrev S16x512x4096 : Shape := ⟨3, ![16, 512, 4096]⟩
abbrev S512x2 : Shape := ⟨2, ![512, 2]⟩
abbrev S1x512x3 : Shape := ⟨3, ![1, 512, 3]⟩
abbrev S1x3x1024 : Shape := ⟨3, ![1, 3, 1024]⟩
abbrev S1x512x1024 : Shape := ⟨3, ![1, 512, 1024]⟩
abbrev S1x256x512 : Shape := ⟨3, ![1, 256, 512]⟩
abbrev S1x512x512 : Shape := ⟨3, ![1, 512, 512]⟩
abbrev S3x1024 : Shape := ⟨2, ![3, 1024]⟩
abbrev S1x512x1 : Shape := ⟨3, ![1, 512, 1]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S256x2 : Shape := ⟨2, ![256, 2]⟩

abbrev nBuf : Space → Nat
  | .hbm => 24
  | .vmem => 30
  | .smem => 0
  | _ => 0

abbrev bufTy : (tb : Table) → Fin (tcTables nBuf tb) → BufTy
  | .hbm, ⟨0, _⟩ => ⟨S16x3x1024, .f32⟩
  | .hbm, ⟨1, _⟩ => ⟨S16x3x4096, .f32⟩
  | .hbm, ⟨2, _⟩ => ⟨S16x512x1024, .f32⟩
  | .hbm, ⟨3, _⟩ => ⟨S16x256x4096, .f32⟩
  | .hbm, ⟨4, _⟩ => ⟨S512x768, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S256x512, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S16x4096x3, .f32⟩
  | .hbm, ⟨13, _⟩ => ⟨S512x1, .f32⟩
  | .hbm, ⟨14, _⟩ => ⟨S256x1, .f32⟩
  | .hbm, ⟨15, _⟩ => ⟨S512x1, .f32⟩
  | .hbm, ⟨16, _⟩ => ⟨S512x1, .f32⟩
  | .hbm, ⟨17, _⟩ => ⟨S256x1, .f32⟩
  | .hbm, ⟨18, _⟩ => ⟨S256x1, .f32⟩
  | .hbm, ⟨19, _⟩ => ⟨S16x512x4096, .f32⟩
  | .hbm, ⟨20, _⟩ => ⟨S512x2, .f32⟩
  | .hbm, ⟨21, _⟩ => ⟨S16x256x4096, .f32⟩
  | .hbm, ⟨22, _⟩ => ⟨S256x2, .f32⟩
  | .hbm, ⟨23, _⟩ => ⟨S16x256x4096, .f32⟩
  | .local _ .vmem, ⟨0, _⟩ => ⟨S1x512x3, .f32⟩
  | .local _ .vmem, ⟨1, _⟩ => ⟨S1x512x3, .f32⟩
  | .local _ .vmem, ⟨2, _⟩ => ⟨S1x3x1024, .f32⟩
  | .local _ .vmem, ⟨3, _⟩ => ⟨S1x3x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x256x512, .f32⟩
  | .local _ .vmem, ⟨7, _⟩ => ⟨S1x256x512, .f32⟩
  | .local _ .vmem, ⟨8, _⟩ => ⟨S512x768, .f32⟩
  | .local _ .vmem, ⟨9, _⟩ => ⟨S512x1, .f32⟩
  | .local _ .vmem, ⟨10, _⟩ => ⟨S1x512x512, .f32⟩
  | .local _ .vmem, ⟨11, _⟩ => ⟨S1x512x512, .f32⟩
  | .local _ .vmem, ⟨12, _⟩ => ⟨S512x2, .f32⟩
  | .local _ .vmem, ⟨13, _⟩ => ⟨S1x512x512, .f32⟩
  | .local _ .vmem, ⟨14, _⟩ => ⟨S1x512x512, .f32⟩
  | .local _ .vmem, ⟨15, _⟩ => ⟨S512x2, .f32⟩
  | .local _ .vmem, ⟨16, _⟩ => ⟨S256x512, .f32⟩
  | .local _ .vmem, ⟨17, _⟩ => ⟨S256x1, .f32⟩
  | .local _ .vmem, ⟨18, _⟩ => ⟨S512x1, .f32⟩
  | .local _ .vmem, ⟨19, _⟩ => ⟨S512x1, .f32⟩
  | .local _ .vmem, ⟨20, _⟩ => ⟨S1x256x512, .f32⟩
  | .local _ .vmem, ⟨21, _⟩ => ⟨S1x256x512, .f32⟩
  | .local _ .vmem, ⟨22, _⟩ => ⟨S256x2, .f32⟩
  | .local _ .vmem, ⟨23, _⟩ => ⟨S1x256x512, .f32⟩
  | .local _ .vmem, ⟨24, _⟩ => ⟨S1x256x512, .f32⟩
  | .local _ .vmem, ⟨25, _⟩ => ⟨S256x2, .f32⟩
  | .local _ .vmem, ⟨26, _⟩ => ⟨S256x1, .f32⟩
  | .local _ .vmem, ⟨27, _⟩ => ⟨S256x1, .f32⟩
  | .local _ .vmem, ⟨28, _⟩ => ⟨S1x256x512, .f32⟩
  | .local _ .vmem, ⟨29, _⟩ => ⟨S1x256x512, .f32⟩
  | _, _ => ⟨S16x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v8_0 : Ref sig .tc := ⟨.hbm, 21, rfl⟩
abbrev main_v8_1 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S512x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S512x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S512x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S512x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 1 → Memref sig .tc .vmem S256x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev grid2 : Pipeline.Grid := ⟨2, ![16, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S256x2 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S256x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x256x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== KernelIdeal.lean ====
variable {F : FTy → Type} [FloatOps F] [Named F]
def κ : String → Option EReal := fun
  | "big" => some ⊤
  | _ => none
-- ==== ReferenceIdeal.lean ====
abbrev S16x3x1024 : Shape := ⟨3, ![16, 3, 1024]⟩
abbrev S16x3x4096 : Shape := ⟨3, ![16, 3, 4096]⟩
abbrev S16x512x1024 : Shape := ⟨3, ![16, 512, 1024]⟩
abbrev S16x256x4096 : Shape := ⟨3, ![16, 256, 4096]⟩
abbrev S512x768 : Shape := ⟨2, ![512, 768]⟩
abbrev S512 : Shape := ⟨1, ![512]⟩
abbrev S256x512 : Shape := ⟨2, ![256, 512]⟩
abbrev S256 : Shape := ⟨1, ![256]⟩
abbrev S16x4096x3 : Shape := ⟨3, ![16, 4096, 3]⟩
abbrev S16x1024x3 : Shape := ⟨3, ![16, 1024, 3]⟩
abbrev S16x4096x1x3 : Shape := ⟨4, ![16, 4096, 1, 3]⟩
abbrev S16x1x1024x3 : Shape := ⟨4, ![16, 1, 1024, 3]⟩
abbrev S16x4096x1024x3 : Shape := ⟨4, ![16, 4096, 1024, 3]⟩
abbrev S_ : Shape := ⟨0, ![]⟩
abbrev S16x4096x1024 : Shape := ⟨3, ![16, 4096, 1024]⟩
abbrev S16x4096 : Shape := ⟨2, ![16, 4096]⟩
abbrev S16x4096x1 : Shape := ⟨3, ![16, 4096, 1]⟩
abbrev S16x4096x3x1 : Shape := ⟨4, ![16, 4096, 3, 1]⟩
abbrev S16x512x4096x3 : Shape := ⟨4, ![16, 512, 4096, 3]⟩
abbrev S16x1x4096x3 : Shape := ⟨4, ![16, 1, 4096, 3]⟩
abbrev S16x512x4096 : Shape := ⟨3, ![16, 512, 4096]⟩
abbrev S16x768x4096 : Shape := ⟨3, ![16, 768, 4096]⟩
abbrev S16x4096x512 : Shape := ⟨3, ![16, 4096, 512]⟩
abbrev S1x512x1 : Shape := ⟨3, ![1, 512, 1]⟩
abbrev S16x4096x256 : Shape := ⟨3, ![16, 4096, 256]⟩
abbrev S1x256x1 : Shape := ⟨3, ![1, 256, 1]⟩

abbrev nBuf : Space → Nat
  | .hbm => 165
  | .vmem => 0
  | .smem => 0
  | _ => 0

abbrev hbmTy0_0 (i : Nat) : BufTy := match i % 128 with
  | 0 => ⟨S16x3x1024, .f32⟩
  | 1 => ⟨S16x3x4096, .f32⟩
  | 2 => ⟨S16x512x1024, .f32⟩
  | 3 => ⟨S16x256x4096, .f32⟩
  | 4 => ⟨S512x768, .f32⟩
  | 5 => ⟨S512, .f32⟩
  | 6 => ⟨S512, .f32⟩
  | 7 => ⟨S512, .f32⟩
  | 8 => ⟨S256x512, .f32⟩
  | 9 => ⟨S256, .f32⟩
  | 10 => ⟨S256, .f32⟩
  | 11 => ⟨S256, .f32⟩
  | 12 => ⟨S16x4096x3, .f32⟩
  | 13 => ⟨S16x1024x3, .f32⟩
  | 14 => ⟨S16x4096x1x3, .f32⟩
  | 15 => ⟨S16x1x1024x3, .f32⟩
  | 16 => ⟨S16x4096x1024x3, .f32⟩
  | 17 => ⟨S16x4096x1024x3, .f32⟩
  | 18 => ⟨S16x4096x1024x3, .f32⟩
  | 19 => ⟨S16x4096x1024x3, .f32⟩
  | 20 => ⟨S_, .f32⟩
  | 21 => ⟨S16x4096x1024, .f32⟩
  | 22 => ⟨S16x4096x1024, .f32⟩
  | 23 => ⟨S16x4096x3, .f32⟩
  | 24 => ⟨S16x4096x3, .i32⟩
  | 25 => ⟨S16x4096x3, .f32⟩
  | 26 => ⟨S_, .f32⟩
  | 27 => ⟨S16x4096x3, .f32⟩
  | 28 => ⟨S16x4096x3, .f32⟩
  | 29 => ⟨S16x4096x3, .f32⟩
  | 30 => ⟨S16x4096x3, .f32⟩
  | 31 => ⟨S_, .f32⟩
  | 32 => ⟨S16x4096x3, .f32⟩
  | 33 => ⟨S16x4096x3, .i1⟩
  | 34 => ⟨S_, .f32⟩
  | 35 => ⟨S_, .f32⟩
  | 36 => ⟨S16x4096x3, .f32⟩
  | 37 => ⟨S16x4096x3, .f32⟩
  | 38 => ⟨S_, .f32⟩
  | 39 => ⟨S16x4096x3, .f32⟩
  | 40 => ⟨S16x4096x3, .f32⟩
  | 41 => ⟨S_, .f32⟩
  | 42 => ⟨S16x4096, .f32⟩
  | 43 => ⟨S16x4096x1, .f32⟩
  | 44 => ⟨S16x4096x3, .f32⟩
  | 45 => ⟨S16x4096x3, .f32⟩
  | 46 => ⟨S_, .i32⟩
  | 47 => ⟨S16x4096x3, .i32⟩
  | 48 => ⟨S16x4096x3, .i1⟩
  | 49 => ⟨S_, .i32⟩
  | 50 => ⟨S16x4096x3, .i32⟩
  | 51 => ⟨S16x4096x3, .i32⟩
  | 52 => ⟨S16x4096x3, .i32⟩
  | 53 => ⟨S16x4096x3x1, .i32⟩
  | 54 => ⟨S16x512x4096x3, .f32⟩
  | 55 => ⟨S16x1x4096x3, .f32⟩
  | 56 => ⟨S16x512x4096x3, .f32⟩
  | 57 => ⟨S16x512x4096x3, .f32⟩
  | 58 => ⟨S_, .f32⟩
  | 59 => ⟨S16x512x4096, .f32⟩
  | 60 => ⟨S16x768x4096, .f32⟩
  | 61 => ⟨S16x4096x512, .f32⟩
  | 62 => ⟨S16x512x4096, .f32⟩
  | 63 => ⟨S1x512x1, .f32⟩
  | 64 => ⟨S16x512x4096, .f32⟩
  | 65 => ⟨S16x512x4096, .f32⟩
  | 66 => ⟨S_, .f32⟩
  | 67 => ⟨S512, .f32⟩
  | 68 => ⟨S1x512x1, .f32⟩
  | 69 => ⟨S_, .f32⟩
  | 70 => ⟨S1x512x1, .f32⟩
  | 71 => ⟨S1x512x1, .f32⟩
  | 72 => ⟨S_, .i32⟩
  | 73 => ⟨S_, .f32⟩
  | 74 => ⟨S512, .f32⟩
  | 75 => ⟨S1x512x1, .f32⟩
  | 76 => ⟨S_, .f32⟩
  | 77 => ⟨S1x512x1, .f32⟩
  | 78 => ⟨S1x512x1, .f32⟩
  | 79 => ⟨S16x512x4096, .f32⟩
  | 80 => ⟨S16x512x4096, .f32⟩
  | 81 => ⟨S16x512x4096, .f32⟩
  | 82 => ⟨S_, .f32⟩
  | 83 => ⟨S_, .f32⟩
  | 84 => ⟨S_, .f32⟩
  | 85 => ⟨S_, .f32⟩
  | 86 => ⟨S512, .f32⟩
  | 87 => ⟨S1x512x1, .f32⟩
  | 88 => ⟨S1x512x1, .f32⟩
  | 89 => ⟨S1x512x1, .f32⟩
  | 90 => ⟨S_, .f32⟩
  | 91 => ⟨S_, .i1⟩
  | 92 => ⟨S_, .f32⟩
  | 93 => ⟨S_, .f32⟩
  | 94 => ⟨S1x512x1, .f32⟩
  | 95 => ⟨S1x512x1, .f32⟩
  | 96 => ⟨S16x512x4096, .f32⟩
  | 97 => ⟨S16x512x4096, .f32⟩
  | 98 => ⟨S_, .f32⟩
  | 99 => ⟨S1x512x1, .f32⟩
  | 100 => ⟨S1x512x1, .f32⟩
  | 101 => ⟨S1x512x1, .f32⟩
  | 102 => ⟨S16x512x4096, .f32⟩
  | 103 => ⟨S16x512x4096, .f32⟩
  | 104 => ⟨S1x512x1, .f32⟩
  | 105 => ⟨S16x512x4096, .f32⟩
  | 106 => ⟨S16x512x4096, .f32⟩
  | 107 => ⟨S1x512x1, .f32⟩
  | 108 => ⟨S16x512x4096, .f32⟩
  | 109 => ⟨S16x512x4096, .f32⟩
  | 110 => ⟨S_, .f32⟩
  | 111 => ⟨S16x512x4096, .f32⟩
  | 112 => ⟨S16x512x4096, .f32⟩
  | 113 => ⟨S16x4096x256, .f32⟩
  | 114 => ⟨S16x256x4096, .f32⟩
  | 115 => ⟨S1x256x1, .f32⟩
  | 116 => ⟨S16x256x4096, .f32⟩
  | 117 => ⟨S16x256x4096, .f32⟩
  | 118 => ⟨S_, .f32⟩
  | 119 => ⟨S256, .f32⟩
  | 120 => ⟨S1x256x1, .f32⟩
  | 121 => ⟨S_, .f32⟩
  | 122 => ⟨S1x256x1, .f32⟩
  | 123 => ⟨S1x256x1, .f32⟩
  | 124 => ⟨S_, .i32⟩
  | 125 => ⟨S_, .f32⟩
  | 126 => ⟨S256, .f32⟩
  | 127 => ⟨S1x256x1, .f32⟩
  | _ => ⟨S16x3x1024, .f32⟩

abbrev hbmTy0_1 (i : Nat) : BufTy := match i % 128 with
  | 0 => ⟨S_, .f32⟩
  | 1 => ⟨S1x256x1, .f32⟩
  | 2 => ⟨S1x256x1, .f32⟩
  | 3 => ⟨S16x256x4096, .f32⟩
  | 4 => ⟨S16x256x4096, .f32⟩
  | 5 => ⟨S16x256x4096, .f32⟩
  | 6 => ⟨S_, .f32⟩
  | 7 => ⟨S_, .f32⟩
  | 8 => ⟨S_, .f32⟩
  | 9 => ⟨S_, .f32⟩
  | 10 => ⟨S256, .f32⟩
  | 11 => ⟨S1x256x1, .f32⟩
  | 12 => ⟨S1x256x1, .f32⟩
  | 13 => ⟨S1x256x1, .f32⟩
  | 14 => ⟨S_, .f32⟩
  | 15 => ⟨S_, .i1⟩
  | 16 => ⟨S_, .f32⟩
  | 17 => ⟨S_, .f32⟩
  | 18 => ⟨S1x256x1, .f32⟩
  | 19 => ⟨S1x256x1, .f32⟩
  | 20 => ⟨S16x256x4096, .f32⟩
  | 21 => ⟨S16x256x4096, .f32⟩
  | 22 => ⟨S_, .f32⟩
  | 23 => ⟨S1x256x1, .f32⟩
  | 24 => ⟨S1x256x1, .f32⟩
  | 25 => ⟨S1x256x1, .f32⟩
  | 26 => ⟨S16x256x4096, .f32⟩
  | 27 => ⟨S16x256x4096, .f32⟩
  | 28 => ⟨S1x256x1, .f32⟩
  | 29 => ⟨S16x256x4096, .f32⟩
  | 30 => ⟨S16x256x4096, .f32⟩
  | 31 => ⟨S1x256x1, .f32⟩
  | 32 => ⟨S16x256x4096, .f32⟩
  | 33 => ⟨S16x256x4096, .f32⟩
  | 34 => ⟨S_, .f32⟩
  | 35 => ⟨S16x256x4096, .f32⟩
  | 36 => ⟨S16x256x4096, .f32⟩
  | _ => ⟨S16x3x1024, .f32⟩

abbrev hbmTy (i : Nat) : BufTy := match i / 128 with
  | 0 => hbmTy0_0 i
  | 1 => hbmTy0_1 i
  | _ => ⟨S16x3x1024, .f32⟩

abbrev bufTy : (tb : Table) → Fin (tcTables nBuf tb) → BufTy
  | .hbm, ⟨i, _⟩ => hbmTy i
  | _, _ => ⟨S16x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_values : Ref sig .tc := ⟨.hbm, 23, rfl⟩
abbrev main_indices : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_6 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_v42 : Ref sig .tc := ⟨.hbm, 68, rfl⟩
abbrev main_cst_8 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_call1_cst : Ref sig .tc := ⟨.hbm, 73, rfl⟩
abbrev main_call1_v0 : Ref sig .tc := ⟨.hbm, 74, rfl⟩
abbrev main_call1_v1 : Ref sig .tc := ⟨.hbm, 75, rfl⟩
abbrev main_call1_cst_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_cst_1 : Ref sig .tc := ⟨.hbm, 83, rfl⟩
abbrev main_call1_v8 : Ref sig .tc := ⟨.hbm, 84, rfl⟩
abbrev main_call1_cst_2 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_v12 : Ref sig .tc := ⟨.hbm, 89, rfl⟩
abbrev main_call1_cst_3 : Ref sig .tc := ⟨.hbm, 90, rfl⟩
abbrev main_call1_v13 : Ref sig .tc := ⟨.hbm, 91, rfl⟩
abbrev main_call1_cst_4 : Ref sig .tc := ⟨.hbm, 92, rfl⟩
abbrev main_call1_call0_v0 : Ref sig .tc := ⟨.hbm, 93, rfl⟩
abbrev main_call1_call0_v1 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_cst_10 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_call2_cst : Ref sig .tc := ⟨.hbm, 110, rfl⟩
abbrev main_call2_v0 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_cst_11 : Ref sig .tc := ⟨.hbm, 118, rfl⟩
abbrev main_v65 : Ref sig .tc := ⟨.hbm, 119, rfl⟩
abbrev main_v66 : Ref sig .tc := ⟨.hbm, 120, rfl⟩
abbrev main_cst_12 : Ref sig .tc := ⟨.hbm, 121, rfl⟩
abbrev main_v67 : Ref sig .tc := ⟨.hbm, 122, rfl⟩
abbrev main_v68 : Ref sig .tc := ⟨.hbm, 123, rfl⟩
abbrev main_c_13 : Ref sig .tc := ⟨.hbm, 124, rfl⟩
abbrev main_call3_cst : Ref sig .tc := ⟨.hbm, 125, rfl⟩
abbrev main_call3_v0 : Ref sig .tc := ⟨.hbm, 126, rfl⟩
abbrev main_call3_v1 : Ref sig .tc := ⟨.hbm, 127, rfl⟩
abbrev main_call3_cst_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_v7 : Ref sig .tc := ⟨.hbm, 134, rfl⟩
abbrev main_call3_cst_1 : Ref sig .tc := ⟨.hbm, 135, rfl⟩
abbrev main_call3_v8 : Ref sig .tc := ⟨.hbm, 136, rfl⟩
abbrev main_call3_cst_2 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_v12 : Ref sig .tc := ⟨.hbm, 141, rfl⟩
abbrev main_call3_cst_3 : Ref sig .tc := ⟨.hbm, 142, rfl⟩
abbrev main_call3_v13 : Ref sig .tc := ⟨.hbm, 143, rfl⟩
abbrev main_call3_cst_4 : Ref sig .tc := ⟨.hbm, 144, rfl⟩
abbrev main_call3_call0_v0 : Ref sig .tc := ⟨.hbm, 145, rfl⟩
abbrev main_call3_call0_v1 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_cst_14 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_call4_cst : Ref sig .tc := ⟨.hbm, 162, rfl⟩
abbrev main_call4_v0 : Ref sig .tc := ⟨.hbm, 163, rfl⟩
abbrev main_v83 : Ref sig .tc := ⟨.hbm, 164, rfl⟩

abbrev nD : Nat := 1
abbrev τ : Topo := Topo.v7x

variable {F : FTy → Type} [FloatOps F]
-- ==== Proof.Reached.lean ====
/-
  The kernel's run read at its last boundary: every buffer outside the calls ends at what the boundary says.
-/
module

public import proofs.«01_k».proof.Proof.Gen.KernelIdeal.Frame

@[expose] public section

set_option maxRecDepth 16384

noncomputable section

namespace Cert.KernelIdeal.Reached

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
variable (m : (ℓ : Loc nD τ sig) → Buf (Elt F) ℓ) (ρ : Dev nD → PrngReg)

set_option backward.isDefEq.respectTransparency.types false in
/-- Every execution terminates, and each unscoped buffer then holds the last boundary's contents. -/
theorem run : θ_run defs (onTc (τ := τ) (main (F := F))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ))
        ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.KernelIdeal.Reached

end
-- ==== Proof.Nearest.lean ====
/-
  The first place where a finite row of numbers is least, and the three places found by taking it, lifting it to `+∞`, and
  taking it again twice. Two descriptions of those three places are shown equal: the one by masks and minima (a fold of
  `min` over the row, then a fold of the integer minimum over the positions that attain it), and the one by a stable sort
  (the first three sources of the sort that puts lesser entries first).
-/
module

public import Idealize.ShloMosaic.Lib.SortPrefix
public import Idealize.ShloMosaic.PureOps.Ideal.Laws

@[expose] public section

noncomputable section

namespace Cert.Nearest

open Idealize.ShloMosaic

section Least
variable {n : Nat} [NeZero n]

/-- Where the row `D` attains its least value there is a place. -/
theorem exists_min (D : Fin n → EReal) : (Finset.univ.filter fun i => ∀ j, D i ≤ D j).Nonempty := by
  obtain ⟨i, _, hi⟩ := Finset.exists_min_image Finset.univ D ⟨0, Finset.mem_univ _⟩
  exact ⟨i, by simpa using hi⟩

/-- The first place where the row `D` is least. -/
def least (D : Fin n → EReal) : Fin n := (Finset.univ.filter fun i => ∀ j, D i ≤ D j).min' (exists_min D)

/-- The row at its first least place is below every entry. -/
theorem least_le (D : Fin n → EReal) (j : Fin n) : D (least D) ≤ D j :=
  (Finset.mem_filter.mp (Finset.min'_mem _ (exists_min D))).2 j

/-- A place that attains the least value is not before the first one. -/
theorem least_first (D : Fin n → EReal) (j : Fin n) (h : D j ≤ D (least D)) : least D ≤ j :=
  Finset.min'_le _ _ (Finset.mem_filter.mpr ⟨Finset.mem_univ _, fun k => h.trans (least_le D k)⟩)

/-- The fold of `min` over the row, from `+∞`, is the row at its first least place. -/
theorem fold_min (D : Fin n → EReal) : Finset.fold min ⊤ D Finset.univ = D (least D) := by
  apply le_antisymm
  · exact (Finset.fold_min_le _).mpr (Or.inr ⟨least D, Finset.mem_univ _, le_rfl⟩)
  · exact (Finset.le_fold_min _).mpr ⟨le_top, fun x _ => least_le D x⟩

attribute [irreducible] least

end Least

/-! ### Positions as 32-bit words -/

/-- A position below 1024, as a word, read back as a signed integer. -/
theorem toInt_word {k : Nat} (h : k ≤ 1024) : (BitVec.ofNat 32 k).toInt = (k : Int) := by
  rw [BitVec.toInt_eq_toNat_of_lt (by rw [BitVec.toNat_ofNat]; omega), BitVec.toNat_ofNat]
  omega

/-- The signed minimum of two words reads back as the minimum of the integers. -/
theorem toInt_minsi (a b : BitVec 32) : (IntOp.minsi a b).toInt = min a.toInt b.toInt := by
  unfold IntOp.minsi
  by_cases h : a.slt b = true
  · rw [if_pos h]; rw [BitVec.slt_iff_toInt_lt] at h; omega
  · rw [if_neg h]; rw [BitVec.slt_iff_toInt_lt] at h; omega

/-- The least word among the positions that satisfy `p`, the others counted as 1024, is the first such position. -/
theorem fold_minsi (p : Fin 1024 → Prop) [DecidablePred p] (i : Fin 1024) (hi : p i) (hfirst : ∀ j, p j → i ≤ j)
    (w : Fin 1024 → BitVec 32) (hw : ∀ x, w x = BitVec.ofNat 32 x.val) :
    Finset.fold IntOp.minsi 2147483647#32 (fun x => if p x then w x else 1024#32) Finset.univ
      = BitVec.ofNat 32 i.val := by
  apply BitVec.eq_of_toInt_eq
  rw [toInt_word i.isLt.le]
  have hom := Finset.fold_hom (op := IntOp.minsi (w := 32)) (op' := (min : Int → Int → Int)) (b := 2147483647#32)
    (s := (Finset.univ : Finset (Fin 1024))) (f := fun x => if p x then w x else 1024#32)
    (m := fun v : BitVec 32 => v.toInt) toInt_minsi
  refine hom.symm.trans (le_antisymm ?_ ?_)
  · refine (Finset.fold_min_le _).mpr (Or.inr ⟨i, Finset.mem_univ _, ?_⟩)
    rw [if_pos hi, hw, toInt_word i.isLt.le]
  · refine (Finset.le_fold_min _).mpr ⟨?_, fun x _ => ?_⟩
    · have : (2147483647#32 : BitVec 32).toInt = 2147483647 := by decide
      rw [this]; have := i.isLt; omega
    · by_cases hx : p x
      · rw [if_pos hx, hw, toInt_word x.isLt.le]
        have := hfirst x hx
        exact_mod_cast this
      · rw [if_neg hx]
        have : (1024#32 : BitVec 32).toInt = 1024 := by decide
        rw [this]; have := i.isLt; omega

/-- Two positions are the same when their words are. -/
theorem word_inj {i j : Fin 1024} : BitVec.ofNat 32 i.val = BitVec.ofNat 32 j.val ↔ i = j := by
  constructor
  · intro h
    have := congrArg BitVec.toInt h
    rw [toInt_word i.isLt.le, toInt_word j.isLt.le] at this
    exact Fin.ext (by exact_mod_cast this)
  · rintro rfl; rfl

/-- The mask of a row: position `t` against the least word of the positions that attain the row's minimum. It is set at
    the row's first least place and nowhere else. -/
theorem mask_word (D : Fin 1024 → EReal) (w : Fin 1024 → BitVec 32) (hw : ∀ x, w x = BitVec.ofNat 32 x.val)
    (t : Fin 1024) :
    IntOp.cmpi .eq (w t) (Finset.fold IntOp.minsi 2147483647#32
      (fun x => if D x = Finset.fold min ⊤ (fun x => D x) Finset.univ then w x else 1024#32) Finset.univ)
      = BitVec.ofBool (decide (t = least D)) := by
  have hm : Finset.fold min ⊤ (fun x => D x) Finset.univ = D (least D) := fold_min D
  rw [hm, fold_minsi (fun x => D x = D (least D)) (least D) rfl (fun j hj => least_first D j hj.le) w hw, hw]
  unfold IntOp.cmpi
  congr 1
  rw [Bool.eq_iff_iff, beq_iff_eq, decide_eq_true_eq]
  exact word_inj

/-! ### The three nearest places -/

section Three
variable {n : Nat} [NeZero n]

/-- The row with its first least place lifted to `+∞`. -/
def lift (D : Fin n → EReal) : Fin n → EReal := fun x => if x = least D then ⊤ else D x

/-- The three nearest places: the first least place of the row, of the row lifted there, and of that lifted again. -/
def near (D : Fin n → EReal) : Fin 3 → Fin n := ![least D, least (lift D), least (lift (lift D))]

/-- Masking leaves the other places alone. -/
theorem lift_of_ne (D : Fin n → EReal) {x : Fin n} (h : x ≠ least D) : lift D x = D x := if_neg h

/-- The masked place holds infinity. -/
theorem lift_least (D : Fin n → EReal) : lift D (least D) = ⊤ := if_pos rfl

/-- The first least place of a lifted row is another than the row's, when some other entry is finite. -/
theorem least_lift_ne (D : Fin n → EReal) (h : ∃ x, x ≠ least D ∧ D x ≠ ⊤) : least (lift D) ≠ least D := by
  obtain ⟨x, hx, ht⟩ := h
  intro e
  have h1 := least_le (lift D) x
  rw [e, lift_least, lift_of_ne D hx] at h1
  exact ht (top_le_iff.mp h1)

end Three

/-! ### The stable sort's first three sources -/

/-- On a list in increasing order, the stable sort by `R` is the stable sort by `R` with ties broken by position. -/
theorem stableSort_tie {n : Nat} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The source of a position in the stable sort of a row by a key order is the one of the order with ties broken by
    position. -/
theorem sortedFrom_tie {n : Nat} (R R' : Fin n → Fin n → Bool) (h : ∀ a b, a < b → R b a = R' b a) (k : Fin n) :
    sortedFrom R k = sortedFrom R' k := by
  have e : sortPositions n R = sortPositions n R' :=
    stableSort_tie R R' h (List.finRange n) (List.pairwise_lt_finRange n)
  unfold sortedFrom
  simp only [List.get_eq_getElem, Fin.val_cast, e]

/-- Off two given positions there is a third, when there are at least three. -/
theorem exists_other {n : Nat} (hn : 3 ≤ n) (i j : Fin n) : ∃ x : Fin n, x ≠ i ∧ x ≠ j := by
  have : ∃ x ∈ (Finset.univ : Finset (Fin n)), x ∉ ({i, j} : Finset (Fin n)) :=
    Finset.exists_mem_notMem_of_card_lt_card (lt_of_le_of_lt Finset.card_le_two (by rw [Finset.card_fin]; omega))
  obtain ⟨x, _, hx⟩ := this
  simp only [Finset.mem_insert, Finset.mem_singleton, not_or] at hx
  exact ⟨x, hx⟩

section Near
variable {n : Nat} [NeZero n]

/-- The first two nearest places of a row with no entry `+∞` are different. -/
theorem near_ne01 (hn : 3 ≤ n) (D : Fin n → EReal) (hD : ∀ x, D x ≠ ⊤) : least (lift D) ≠ least D := by
  obtain ⟨x, hx, _⟩ := exists_other hn (least D) (least D)
  exact least_lift_ne D ⟨x, hx, hD x⟩

/-- The third nearest place of a row with no entry `+∞` is neither of the first two. -/
theorem near_ne2 (hn : 3 ≤ n) (D : Fin n → EReal) (hD : ∀ x, D x ≠ ⊤) :
    least (lift (lift D)) ≠ least D ∧ least (lift (lift D)) ≠ least (lift D) := by
  have h10 := near_ne01 hn D hD
  obtain ⟨f, f0, f1⟩ := exists_other hn (least D) (least (lift D))
  have m2 := least_le (lift (lift D)) f
  rw [lift_of_ne _ f1, lift_of_ne _ f0] at m2
  have hfin : lift (lift D) (least (lift (lift D))) ≠ ⊤ := fun e => hD f (top_le_iff.mp (e ▸ m2))
  refine ⟨fun e => hfin ?_, fun e => hfin ?_⟩
  · rw [e, lift_of_ne _ (Ne.symm h10), lift_least]
  · rw [e, lift_least]

/-- The three nearest places of a row with no entry `+∞` are different. -/
theorem near_injective (hn : 3 ≤ n) (D : Fin n → EReal) (hD : ∀ x, D x ≠ ⊤) : Function.Injective (near D) := by
  have h10 := near_ne01 hn D hD
  obtain ⟨h20, h21⟩ := near_ne2 hn D hD
  unfold near
  generalize least D = i0, least (lift D) = i1, least (lift (lift D)) = i2 at *
  intro a b hab
  fin_cases a <;> fin_cases b <;> try rfl
  · exact absurd hab h10.symm
  · exact absurd hab h20.symm
  · exact absurd hab h10
  · exact absurd hab h21.symm
  · exact absurd hab h20
  · exact absurd hab h21

/-- At its second nearest place the lifted row is the row. -/
theorem lift_near1 (hn : 3 ≤ n) (D : Fin n → EReal) (hD : ∀ x, D x ≠ ⊤) :
    lift D (least (lift D)) = D (least (lift D)) := lift_of_ne D (near_ne01 hn D hD)

/-- At its third nearest place the twice lifted row is the row. -/
theorem lift_near2 (hn : 3 ≤ n) (D : Fin n → EReal) (hD : ∀ x, D x ≠ ⊤) :
    lift (lift D) (least (lift (lift D))) = D (least (lift (lift D))) := by
  rw [lift_of_ne _ (near_ne2 hn D hD).2, lift_of_ne _ (near_ne2 hn D hD).1]

/-- The order of the row's entries with ties broken by position. -/
def before (D : Fin n → EReal) (a b : Fin n) : Bool := decide (D a < D b) || (decide (D a = D b) && decide (a < b))

/-- That order is a strict total order. -/
theorem before_total (D : Fin n → EReal) : StrictTotalBefore (before D) :=
  StrictTotalBefore.of_key_then_position (fun x y : EReal => decide (x < y)) D
    (fun a => by simp) (fun a b c hab hbc => by simp only [decide_eq_true_eq] at *; exact lt_trans hab hbc)
    (fun a b => by simp only [decide_eq_true_eq]; exact lt_trichotomy a b)

/-- A place is not before one that is no greater and, on a tie, no later. -/
theorem before_false (D : Fin n → EReal) (p i : Fin n) (h1 : D i ≤ D p) (h2 : D p ≤ D i → i ≤ p) :
    before D p i = false := by
  simp only [before, Bool.or_eq_false_iff, Bool.and_eq_false_iff, decide_eq_false_iff_not, not_lt]
  refine ⟨h1, ?_⟩
  by_cases e : D p = D i
  · exact Or.inr (h2 e.le)
  · exact Or.inl e

/-- The three nearest places of a row with no entry `+∞` are the first three sources of its stable sort, lesser first. -/
theorem sortedFrom_near (hn : 3 ≤ n) (D : Fin n → EReal) (hD : ∀ x, D x ≠ ⊤) (k : Fin 3) :
    sortedFrom (fun a b : Fin n => decide (D a < D b)) (k.castLE hn) = near D k := by
  have h10 := near_ne01 hn D hD
  have h20 := (near_ne2 hn D hD).1
  have h21 := (near_ne2 hn D hD).2
  have inj := near_injective hn D hD
  have below0 : ∀ p, before D p (least D) = false := fun p => before_false D p _ (least_le D p) (least_first D p)
  have below1 : ∀ p, p ≠ least D → before D p (least (lift D)) = false := fun p hp => by
    have a := least_le (lift D) p
    have b := least_first (lift D) p
    rw [lift_of_ne D hp, lift_near1 hn D hD] at a b
    exact before_false D p _ a b
  have below2 : ∀ p, p ≠ least D → p ≠ least (lift D) → before D p (least (lift (lift D))) = false := fun p hp hp1 => by
    have a := least_le (lift (lift D)) p
    have b := least_first (lift (lift D)) p
    rw [lift_of_ne _ hp1, lift_of_ne D hp, lift_near2 hn D hD] at a b
    exact before_false D p _ a b
  rw [sortedFrom_tie (fun a b : Fin n => decide (D a < D b)) (before D) (fun a b hab => by
    unfold before; rw [show decide (b < a) = false from decide_eq_false (not_lt.mpr hab.le)]; simp)]
  refine (before_total D).sortedFrom_eq_of_prefix hn (near D) inj ?_ ?_ k
  · unfold near
    generalize least D = i0, least (lift D) = i1, least (lift (lift D)) = i2 at *
    intro a b hab
    fin_cases a <;> fin_cases b <;> first | exact absurd hab (by decide) | exact below0 _ | exact below1 _ h20
  · unfold near
    generalize least D = i0, least (lift D) = i1, least (lift (lift D)) = i2 at *
    intro a p hp
    have p0 : p ≠ i0 := fun h => hp 0 h.symm
    have p1 : p ≠ i1 := fun h => hp 1 h.symm
    fin_cases a
    · exact below0 p
    · exact below1 p p0
    · exact below2 p p0 p1

end Near

end Cert.Nearest

end
-- ==== Proof.Spec.lean ====
/-
  The problem's mathematics over the real numbers: one query point's three nearest reference points with their inverse
  distance weights, the features interpolated from them, the first linear map, and the normalisation of a channel over
  the whole batch.
-/
module

public import proofs.«01_k».proof.Proof.Nearest
public import Idealize.ShloMosaic.Lib.KernelVsHost.DropoutScale

@[expose] public section

noncomputable section

namespace Cert.Spec

open Idealize.ShloMosaic

/-- The least squared distance that is divided by: the number the literal `1e-10` stands for. -/
def tiny : ℝ := 14411519 * (2 : ℝ) ^ (-57 : Int)

/-- The number added to a variance: the one the literal `1e-3` stands for. -/
def eps : ℝ := 8589935 * (2 : ℝ) ^ (-33 : Int)

/-- The least distance allowed is positive. -/
theorem tiny_pos : 0 < tiny := by unfold tiny; positivity

/-- The variance's addend is positive. -/
theorem eps_pos : 0 < eps := by unfold eps; positivity

/-- The literal `1e-10`. -/
theorem ofBits_tiny : Ideal.ofBits .f32 0x2EDBE6FF#32 = ((tiny : ℝ) : EReal) := by
  simp [Ideal.ofBits, Ideal.ieee, tiny, -EReal.coe_mul]

/-- The literal `1e-3`. -/
theorem ofBits_eps : Ideal.ofBits .f32 0x3A83126F#32 = ((eps : ℝ) : EReal) := by
  simp [Ideal.ofBits, Ideal.ieee, eps, -EReal.coe_mul]

/-- The literal `+∞`. -/
theorem ofBits_top : Ideal.ofBits .f32 0x7F800000#32 = ⊤ := by
  simp [Ideal.ofBits, Ideal.ieee]

/-- A sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greater of two reals, as an extended real. -/
theorem coe_max (a b : ℝ) : ((max a b : ℝ) : EReal) = max (a : EReal) (b : EReal) :=
  EReal.coe_strictMono.monotone.map_max

/-- A quotient of reals with a divisor that is not zero. -/
theorem div_coe' (a b : ℝ) (h : b ≠ 0) : Ideal.div (a : EReal) (b : EReal) = ((a / b : ℝ) : EReal) := by
  rw [Ideal.div_coe h, ← EReal.coe_mul]; congr 1; ring

/-! ### One query point -/

/-- The squared distance of the point `p` to the reference point `n` of `q`. -/
def dist2 (p : Fin 3 → ℝ) (q : Fin 3 → Fin 1024 → ℝ) (n : Fin 1024) : ℝ :=
  ∑ a, (p a - q a n) * (p a - q a n)

/-- A squared distance is not negative. -/
theorem dist2_nonneg (p : Fin 3 → ℝ) (q : Fin 3 → Fin 1024 → ℝ) (n : Fin 1024) : 0 ≤ dist2 p q n :=
  Finset.sum_nonneg fun _ _ => mul_self_nonneg _

/-- The row of squared distances as extended reals. -/
def row (p : Fin 3 → ℝ) (q : Fin 3 → Fin 1024 → ℝ) : Fin 1024 → EReal := fun n => ((dist2 p q n : ℝ) : EReal)

/-- The place of the `k`-th nearest reference point. -/
def place (p : Fin 3 → ℝ) (q : Fin 3 → Fin 1024 → ℝ) (k : Fin 3) : Fin 1024 := Nearest.near (row p q) k

/-- The inverse of the `k`-th nearest squared distance, that one taken to be at least `tiny`. -/
def inv (p : Fin 3 → ℝ) (q : Fin 3 → Fin 1024 → ℝ) (k : Fin 3) : ℝ := 1 / max (dist2 p q (place p q k)) tiny

/-- A reciprocal distance is positive. -/
theorem inv_pos (p : Fin 3 → ℝ) (q : Fin 3 → Fin 1024 → ℝ) (k : Fin 3) : 0 < inv p q k :=
  one_div_pos.mpr (lt_max_of_lt_right tiny_pos)

/-- So is the sum of the three. -/
theorem sum_inv_pos (p : Fin 3 → ℝ) (q : Fin 3 → Fin 1024 → ℝ) : 0 < ∑ k, inv p q k :=
  Finset.sum_pos (fun k _ => inv_pos p q k) ⟨0, Finset.mem_univ _⟩

/-- The weight of the `k`-th nearest reference point. -/
def weight (p : Fin 3 → ℝ) (q : Fin 3 → Fin 1024 → ℝ) (k : Fin 3) : ℝ := inv p q k / ∑ j, inv p q j

/-- The inverse, as the quotient of one by the greater of the distance and the literal. -/
theorem inv_ideal (p : Fin 3 → ℝ) (q : Fin 3 → Fin 1024 → ℝ) (k : Fin 3) :
    Ideal.div 1 (max (row p q (place p q k)) (Ideal.ofBits .f32 0x2EDBE6FF#32)) = ((inv p q k : ℝ) : EReal) := by
  unfold row
  rw [ofBits_tiny, ← coe_max, ← EReal.coe_one, div_coe' _ _ (lt_max_of_lt_right tiny_pos).ne']
  rfl

/-- A feature interpolated at the point from its three nearest reference points. -/
def interp (p : Fin 3 → ℝ) (q : Fin 3 → Fin 1024 → ℝ) (f : Fin 1024 → ℝ) : ℝ :=
  ∑ k, f (place p q k) * weight p q k

/-- The row of weights as a mask: a place's weight where it is one of the three nearest, zero elsewhere. -/
theorem interp_mask (p : Fin 3 → ℝ) (q : Fin 3 → Fin 1024 → ℝ) (f : Fin 1024 → ℝ) :
    ∑ n, f n * ((if n = place p q 0 then weight p q 0 else 0) + (if n = place p q 1 then weight p q 1 else 0)
      + (if n = place p q 2 then weight p q 2 else 0)) = interp p q f := by
  unfold interp
  rw [Fin.sum_univ_three]
  simp only [mul_add, Finset.sum_add_distrib, mul_ite, mul_zero, Finset.sum_ite_eq', Finset.mem_univ, if_true]

/-- Row `o` of the first linear map, at one point: over the interpolated features, then over the point's own, then the
    bias. -/
def mix (p : Fin 3 → ℝ) (q : Fin 3 → Fin 1024 → ℝ) (f : Fin 512 → Fin 1024 → ℝ) (e : Fin 256 → ℝ)
    (w : Fin 768 → ℝ) (b : ℝ) : ℝ :=
  ∑ x : Fin 512, w (x.castLE (by decide)) * interp p q (f x) + ∑ x : Fin 256, w (Fin.natAdd 512 x) * e x + b

/-! ### One channel over the batch -/

/-- The mean of a channel over the batch. -/
def mean (y : Fin 16 → Fin 4096 → ℝ) : ℝ := (∑ b, ∑ t, y b t) / 65536

/-- The variance of a channel over the batch. -/
def var (y : Fin 16 → Fin 4096 → ℝ) : ℝ := (∑ b, ∑ t, (y b t - mean y) * (y b t - mean y)) / 65536

/-- A variance is not negative. -/
theorem var_nonneg (y : Fin 16 → Fin 4096 → ℝ) : 0 ≤ var y :=
  div_nonneg (Finset.sum_nonneg fun _ _ => Finset.sum_nonneg fun _ _ => mul_self_nonneg _) (by norm_num)

/-- A variance with its addend is positive. -/
theorem var_eps_pos (y : Fin 16 → Fin 4096 → ℝ) : 0 < var y + eps := add_pos_of_nonneg_of_pos (var_nonneg y) eps_pos

/-- So is its square root. -/
theorem sqrt_var_pos (y : Fin 16 → Fin 4096 → ℝ) : 0 < Real.sqrt (var y + eps) := Real.sqrt_pos.mpr (var_eps_pos y)

/-- The variance is the mean square less the squared mean. -/
theorem var_eq (y : Fin 16 → Fin 4096 → ℝ) :
    (∑ b, ∑ t, y b t * y b t) / 65536 - mean y * mean y = var y := by
  have h : ∀ m : ℝ, ∑ b, ∑ t, (y b t - m) * (y b t - m)
      = (∑ b, ∑ t, y b t * y b t) - 2 * m * (∑ b, ∑ t, y b t) + 65536 * (m * m) := by
    intro m
    have : ∀ b, ∑ t, (y b t - m) * (y b t - m)
        = (∑ t, y b t * y b t) - 2 * m * (∑ t, y b t) + 4096 * (m * m) := by
      intro b
      have e : ∀ t, (y b t - m) * (y b t - m) = y b t * y b t - 2 * m * y b t + m * m := fun t => by ring
      simp only [e, Finset.sum_add_distrib, Finset.sum_sub_distrib, ← Finset.mul_sum, Finset.sum_const,
        Finset.card_univ, Fintype.card_fin, nsmul_eq_mul]
      norm_num
      ring
    simp only [this, Finset.sum_add_distrib, Finset.sum_sub_distrib, ← Finset.mul_sum, Finset.sum_const,
      Finset.card_univ, Fintype.card_fin, nsmul_eq_mul]
    norm_num
    ring
  have hm : (∑ b, ∑ t, y b t) = 65536 * mean y := by unfold mean; ring
  unfold var
  rw [h, hm]
  ring

/-- A channel's value less the mean, over the standard deviation. -/
def unit (y : Fin 16 → Fin 4096 → ℝ) (b : Fin 16) (t : Fin 4096) : ℝ := (y b t - mean y) / Real.sqrt (var y + eps)

/-- A channel normalised, scaled by `g`, shifted by `s` and cut off below zero. -/
def norm (y : Fin 16 → Fin 4096 → ℝ) (g : ℝ) (s : EReal) (b : Fin 16) (t : Fin 4096) : EReal :=
  max (((g * unit y b t : ℝ) : EReal) + s) 0

/-- The same with a real shift. -/
def normR (y : Fin 16 → Fin 4096 → ℝ) (g s : ℝ) (b : Fin 16) (t : Fin 4096) : ℝ := max (g * unit y b t + s) 0

/-- With a real shift the normalised value is a real number. -/
theorem norm_coe (y : Fin 16 → Fin 4096 → ℝ) (g s : ℝ) (b : Fin 16) (t : Fin 4096) :
    norm y g (s : EReal) b t = ((normR y g s b t : ℝ) : EReal) := by
  unfold norm normR
  rw [coe_max, EReal.coe_add, EReal.coe_zero]

/-- The reciprocal root of a positive real. -/
theorem rsqrt_coe (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- The root of a real that is not negative. -/
theorem sqrt_coe (r : ℝ) (h : 0 ≤ r) : Ideal.sqrt (r : EReal) = ((Real.sqrt r : ℝ) : EReal) := by
  show (if r < 0 then (⊥ : EReal) else ((Real.sqrt r : ℝ) : EReal)) = _
  rw [if_neg (not_lt.mpr h)]

/-- Scaling by `g / √(var + eps)` and shifting by what is left of `s` is the normalisation: the statistics are the
    channel's sum and its sum of squares. -/
theorem norm_of_sums (y : Fin 16 → Fin 4096 → ℝ) (g : ℝ) (s : EReal) (b : Fin 16) (t : Fin 4096) (S Q : EReal)
    (hS : S = ((∑ b, ∑ t, y b t : ℝ) : EReal)) (hQ : Q = ((∑ b, ∑ t, y b t * y b t : ℝ) : EReal)) :
    max ((y b t : EReal) * ((g : EReal) * Ideal.rsqrt (Ideal.div Q ((65536 : ℝ) : EReal)
          - Ideal.div S ((65536 : ℝ) : EReal) * Ideal.div S ((65536 : ℝ) : EReal) + ((eps : ℝ) : EReal)))
        + (s - Ideal.div S ((65536 : ℝ) : EReal) * ((g : EReal) * Ideal.rsqrt (Ideal.div Q ((65536 : ℝ) : EReal)
          - Ideal.div S ((65536 : ℝ) : EReal) * Ideal.div S ((65536 : ℝ) : EReal) + ((eps : ℝ) : EReal))))) 0
      = norm y g s b t := by
  have hs : Ideal.div S ((65536 : ℝ) : EReal) = ((mean y : ℝ) : EReal) := by
    rw [hS, div_coe' _ _ (by norm_num)]; rfl
  have hq : Ideal.div Q ((65536 : ℝ) : EReal) = (((∑ b, ∑ t, y b t * y b t) / 65536 : ℝ) : EReal) := by
    rw [hQ, div_coe' _ _ (by norm_num)]
  rw [hs, hq, ← EReal.coe_mul, ← EReal.coe_sub, var_eq, ← EReal.coe_add, rsqrt_coe _ (var_eps_pos y), ← EReal.coe_mul,
    ← EReal.coe_mul, ← EReal.coe_mul]
  unfold norm
  congr 1
  rw [sub_eq_add_neg, add_comm s, ← add_assoc, ← EReal.coe_neg, ← EReal.coe_add]
  congr 2
  unfold unit
  field_simp
  ring

end Cert.Spec

end
-- ==== Proof.Layer.lean ====
/-
  The second linear map over normalised channels, and the whole computation from the eleven real argument arrays and the
  last shift.
-/
module

public import proofs.«01_k».proof.Proof.Spec

@[expose] public section

noncomputable section

namespace Cert.Spec

/-- Row `o` of the second linear map over the normalised channels. -/
def second (y : Fin 512 → Fin 16 → Fin 4096 → ℝ) (g s : Fin 512 → ℝ) (w : Fin 256 → Fin 512 → ℝ) (e : Fin 256 → ℝ)
    (o : Fin 256) (b : Fin 16) (t : Fin 4096) : ℝ := ∑ k, w o k * normR (y k) (g k) (s k) b t + e o

/-- Row `o` of the first linear map at a point of the batch. -/
def firstMap (p : Fin 16 → Fin 3 → Fin 1024 → ℝ) (q : Fin 16 → Fin 3 → Fin 4096 → ℝ) (f : Fin 16 → Fin 512 → Fin 1024 → ℝ)
    (e : Fin 16 → Fin 256 → Fin 4096 → ℝ) (w : Fin 512 → Fin 768 → ℝ) (d : Fin 512 → ℝ) (o : Fin 512) (b : Fin 16)
    (t : Fin 4096) : ℝ := mix (fun a => q b a t) (p b) (f b) (fun x => e b x t) (w o) (d o)

end Cert.Spec

end
-- ==== Proof.Inputs.lean ====
/-
  What the precondition gives: every entry of the first eleven arguments is a real number.
-/
module

public import proofs.«01_k».proof.Proof.Layer
public import proofs.«01_k».proof.Proof.Gen.Pre_finite
public import Idealize.ShloMosaic.Lib.ReduceAll
public import Idealize.ShloMosaic.Lib.Affine
public import Idealize.ShloMosaic.Lib.Pipeline.ValueKit

@[expose] public section

set_option maxRecDepth 16384

noncomputable section

open Idealize.ShloMosaic

namespace Cert.Inputs

open Cert.Pre_finite Cert.Spec

/-- A comparison of `|x|` with `+∞` at every entry, all of them true, makes every entry of `x` a real number. -/
theorem real_of {S : Shape} {axes : List (Fin S.rank)} (x : FVec Ideal S .f32) (hb : S_.BroadcastsInDim S (![] : Fin 0 → Fin S.rank))
    (h : S.ReducesTo axes S_) (hu : 0 < S_.numel) (j : S_.Idx)
    (e : Host.reduce IntOp.andi (cmpf .olt (Host.absf x) (broadcastInDim S ![] hb (constant S_ .f32 0x7F800000#32)))
      (constantI S_ 1 1#1) h hu j = 1#1) (i : S.Idx) : ∃ r : ℝ, x i = (r : EReal) := by
  haveI : Subsingleton S_.Idx := ⟨fun a b => funext fun k => k.elim0⟩
  have h1 := Host.reduce_andi_all _ _ h hu j e i
  have h2 : BitVec.ofBool (decide (max (x i) (-(x i)) < Ideal.ofBits .f32 0x7F800000#32)) = 1#1 := h1
  rw [ofBits_top] at h2
  have h3 : max (x i) (-(x i)) < ⊤ := by
    by_contra hn
    rw [decide_eq_false hn] at h2
    exact absurd h2 (by decide)
  have ht : x i ≠ ⊤ := fun h => by rw [h] at h3; simp at h3
  have hl : x i ≠ ⊥ := fun h => by rw [h] at h3; simp at h3
  exact ⟨(x i).toReal, (EReal.coe_toReal ht hl).symm⟩

variable (x0 : FVec Ideal S16x3x1024 .f32) (x1 : FVec Ideal S16x3x4096 .f32) (x2 : FVec Ideal S16x512x1024 .f32)
  (x3 : FVec Ideal S16x256x4096 .f32) (x4 : FVec Ideal S512x768 .f32) (x5 x6 x7 : FVec Ideal S512 .f32)
  (x8 : FVec Ideal S256x512 .f32) (x9 x10 x11 : FVec Ideal S256 .f32)

/-- The arguments hold these real numbers. -/
structure Holds (p : Fin 16 → Fin 3 → Fin 1024 → ℝ) (q : Fin 16 → Fin 3 → Fin 4096 → ℝ)
    (f : Fin 16 → Fin 512 → Fin 1024 → ℝ) (e : Fin 16 → Fin 256 → Fin 4096 → ℝ) (w : Fin 512 → Fin 768 → ℝ)
    (d g s : Fin 512 → ℝ) (v : Fin 256 → Fin 512 → ℝ) (k r : Fin 256 → ℝ) : Prop where
  h0 : ∀ b a n, x0 (ix3 b a n) = ((p b a n : ℝ) : EReal)
  h1 : ∀ b a t, x1 (ix3 b a t) = ((q b a t : ℝ) : EReal)
  h2 : ∀ b x n, x2 (ix3 b x n) = ((f b x n : ℝ) : EReal)
  h3 : ∀ b x t, x3 (ix3 b x t) = ((e b x t : ℝ) : EReal)
  h4 : ∀ o x, x4 (ix2 o x) = ((w o x : ℝ) : EReal)
  h5 : ∀ o, x5 (ix1 o) = ((d o : ℝ) : EReal)
  h6 : ∀ o, x6 (ix1 o) = ((g o : ℝ) : EReal)
  h7 : ∀ o, x7 (ix1 o) = ((s o : ℝ) : EReal)
  h8 : ∀ o x, x8 (ix2 o x) = ((v o x : ℝ) : EReal)
  h9 : ∀ o, x9 (ix1 o) = ((k o : ℝ) : EReal)
  h10 : ∀ o, x10 (ix1 o) = ((r o : ℝ) : EReal)

/-- The network's answer from the numbers the arguments hold; the last shift is read as it stands. -/
def answer (p : Fin 16 → Fin 3 → Fin 1024 → ℝ) (q : Fin 16 → Fin 3 → Fin 4096 → ℝ)
    (f : Fin 16 → Fin 512 → Fin 1024 → ℝ) (e : Fin 16 → Fin 256 → Fin 4096 → ℝ) (w : Fin 512 → Fin 768 → ℝ)
    (d g s : Fin 512 → ℝ) (v : Fin 256 → Fin 512 → ℝ) (k r : Fin 256 → ℝ) : FVec Ideal S16x256x4096 .f32 :=
  fun i => norm (second (firstMap p q f e w d) g s v k (i 1)) (r (i 1)) (x11 (ix1 (i 1))) (i 0) (i 2)

/-- Under the precondition there are such numbers. -/
theorem exists_holds (h : Cert.Pre_finite.fn (F := Ideal) x0 x1 x2 x3 x4 x5 x6 x7 x8 x9 x10 x11 = fun _ => 1#1) :
    ∃ p q f e w d g s v k r, Holds x0 x1 x2 x3 x4 x5 x6 x7 x8 x9 x10 p q f e w d g s v k r := by
  have a := congrFun h (fun k => k.elim0)
  obtain ⟨a, b10⟩ := IntOp.andi_eq_one.1 a
  obtain ⟨a, b9⟩ := IntOp.andi_eq_one.1 a
  obtain ⟨a, b8⟩ := IntOp.andi_eq_one.1 a
  obtain ⟨a, b7⟩ := IntOp.andi_eq_one.1 a
  obtain ⟨a, b6⟩ := IntOp.andi_eq_one.1 a
  obtain ⟨a, b5⟩ := IntOp.andi_eq_one.1 a
  obtain ⟨a, b4⟩ := IntOp.andi_eq_one.1 a
  obtain ⟨a, b3⟩ := IntOp.andi_eq_one.1 a
  obtain ⟨a, b2⟩ := IntOp.andi_eq_one.1 a
  obtain ⟨b0, b1⟩ := IntOp.andi_eq_one.1 a
  choose p hp using real_of x0 _ _ _ _ b0
  choose q hq using real_of x1 _ _ _ _ b1
  choose f hf using real_of x2 _ _ _ _ b2
  choose e he using real_of x3 _ _ _ _ b3
  choose w hw using real_of x4 _ _ _ _ b4
  choose d hd using real_of x5 _ _ _ _ b5
  choose g hg using real_of x6 _ _ _ _ b6
  choose s hs using real_of x7 _ _ _ _ b7
  choose v hv using real_of x8 _ _ _ _ b8
  choose k hk using real_of x9 _ _ _ _ b9
  choose r hr using real_of x10 _ _ _ _ b10
  exact ⟨fun b a n => p (ix3 b a n), fun b a t => q (ix3 b a t), fun b x n => f (ix3 b x n), fun b x t => e (ix3 b x t),
    fun o x => w (ix2 o x), fun o => d (ix1 o), fun o => g (ix1 o), fun o => s (ix1 o), fun o x => v (ix2 o x),
    fun o => k (ix1 o), fun o => r (ix1 o),
    ⟨fun _ _ _ => hp _, fun _ _ _ => hq _, fun _ _ _ => hf _, fun _ _ _ => he _, fun _ _ => hw _, fun _ => hd _, fun _ => hg _,
      fun _ => hs _, fun _ _ => hv _, fun _ => hk _, fun _ => hr _⟩⟩

end Cert.Inputs

end
-- ==== Proof.Points.lean ====
/-
  The grid's 128 points: point `s` works on batch element `s / 8` and on the 512 columns from `(s % 8) * 512`. Summing over
  the points and a point's columns is summing over the batch and all 4096 columns.
-/
module

public import Mathlib.Algebra.BigOperators.Fin
public import Mathlib.Data.Real.Basic
public import Mathlib.Logic.Equiv.Fin.Basic
public import Mathlib.Algebra.BigOperators.Ring.Finset

@[expose] public section

namespace Cert.Points

/-- The batch element of point `s`. -/
def pt (s : ℕ) : Fin 16 := ⟨s / 8 % 16, Nat.mod_lt _ (by decide)⟩

/-- Column `j` of point `s`'s block. -/
def col (s : ℕ) (j : Fin 512) : Fin 4096 := ⟨s % 8 * 512 + j.val, by
  have := Nat.mod_lt s (show 0 < 8 by decide); omega⟩

/-- The sum over the points is the sum over the batch and the columns. -/
theorem sum_points (f : Fin 16 → Fin 4096 → ℝ) :
    ∑ s ∈ Finset.range 128, ∑ j : Fin 512, f (pt s) (col s j) = ∑ b, ∑ t, f b t := by
  rw [Finset.sum_range, ← (finProdFinEquiv (m := 16) (n := 8)).sum_comp, Fintype.sum_prod_type]
  refine Finset.sum_congr rfl fun b _ => ?_
  rw [← (finProdFinEquiv (m := 8) (n := 512)).sum_comp (fun t => f b t), Fintype.sum_prod_type]
  refine Finset.sum_congr rfl fun u _ => Finset.sum_congr rfl fun j _ => ?_
  congr 1
  · apply Fin.ext
    show (u.val + 8 * b.val) / 8 % 16 = b.val
    omega
  · apply Fin.ext
    show (u.val + 8 * b.val) % 8 * 512 + j.val = j.val + 512 * u.val
    omega

end Cert.Points
-- ==== Proof.Entry.lean ====
/-
  What the arrays hold when the first call is entered: the arguments, the targets with their axes exchanged, and the
  vectors stood up as columns.
-/
module

public import proofs.«01_k».proof.Proof.Points
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem

namespace Cert.KernelIdeal.Entry

open Cert.KernelIdeal Cert.KernelIdeal.Gen

variable (m : (ℓ : Loc nD τ sig) → Buf (Elt Ideal) ℓ) (ρ : Dev nD → PrngReg) (c : Dev nD)

/-- An argument at the first call's entry is the argument. -/
theorem arg (a : Ref sig .tc) (ha : a ∈ argRefs) : V1 m ρ c a = m ((c : Thread nD τ).loc a) := W1_args m ρ c a ha

/-- The targets, axes exchanged. -/
theorem v0 (b : Fin 16) (t : Fin 4096) (a : Fin 3) : (V1 m ρ c main_v0 : FVec Ideal S16x4096x3 .f32) (ix3 b t a)
    = (m ((c : Thread nD τ).loc main_arg1) : FVec Ideal S16x3x4096 .f32) (ix3 b a t) := by
  have h : (V1 m ρ c main_v0 : FVec Ideal S16x4096x3 .f32) = transpose S16x4096x3 [0, 2, 1]
      (m ((c : Thread nD τ).loc main_arg1) : FVec Ideal S16x3x4096 .f32) transposes_S16x3x4096_S16x4096x3_0_2_1 := by
    show StableHlo.after hostOps0 (W0 m ρ c) (Proc.devRef .tc main_v0) = _
    entry_read
    rfl
  rw [h]
  pointwise

/-- A vector stood up as a column, read in its row. -/
theorem column512 (x : FVec Ideal S512 .f32) (o : Fin 512) : shapeCast S512x1 x shapeCasts_S512_S512x1 (ix2 o 0) = x (ix1 o) := by
  refine shapeCast_apply x _ _ _ ?_
  simp [Shape.rowMajor_val_one, Shape.rowMajor_val_two]

/-- The same at the shorter length. -/
theorem column256 (x : FVec Ideal S256 .f32) (o : Fin 256) : shapeCast S256x1 x shapeCasts_S256_S256x1 (ix2 o 0) = x (ix1 o) := by
  refine shapeCast_apply x _ _ _ ?_
  simp [Shape.rowMajor_val_one, Shape.rowMajor_val_two]

/-- The first bias. -/
theorem v1 (o : Fin 512) : (V1 m ρ c main_v1 : FVec Ideal S512x1 .f32) (ix2 o 0)
    = (m ((c : Thread nD τ).loc main_arg5) : FVec Ideal S512 .f32) (ix1 o) := by
  refine Eq.trans ?_ (column512 _ o)
  show StableHlo.after hostOps0 (W0 m ρ c) (Proc.devRef .tc main_v1) _ = _
  entry_read
  rfl

/-- The second bias. -/
theorem v2 (o : Fin 256) : (V1 m ρ c main_v2 : FVec Ideal S256x1 .f32) (ix2 o 0)
    = (m ((c : Thread nD τ).loc main_arg9) : FVec Ideal S256 .f32) (ix1 o) := by
  refine Eq.trans ?_ (column256 _ o)
  show StableHlo.after hostOps0 (W0 m ρ c) (Proc.devRef .tc main_v2) _ = _
  entry_read
  rfl

/-- The first normalisation's factors. -/
theorem v3 (o : Fin 512) : (V1 m ρ c main_v3 : FVec Ideal S512x1 .f32) (ix2 o 0)
    = (m ((c : Thread nD τ).loc main_arg6) : FVec Ideal S512 .f32) (ix1 o) := by
  refine Eq.trans ?_ (column512 _ o)
  show StableHlo.after hostOps0 (W0 m ρ c) (Proc.devRef .tc main_v3) _ = _
  entry_read
  rfl

/-- The first normalisation's shifts. -/
theorem v4 (o : Fin 512) : (V1 m ρ c main_v4 : FVec Ideal S512x1 .f32) (ix2 o 0)
    = (m ((c : Thread nD τ).loc main_arg7) : FVec Ideal S512 .f32) (ix1 o) := by
  refine Eq.trans ?_ (column512 _ o)
  show StableHlo.after hostOps0 (W0 m ρ c) (Proc.devRef .tc main_v4) _ = _
  entry_read
  rfl

/-- The second normalisation's factors. -/
theorem v5 (o : Fin 256) : (V1 m ρ c main_v5 : FVec Ideal S256x1 .f32) (ix2 o 0)
    = (m ((c : Thread nD τ).loc main_arg10) : FVec Ideal S256 .f32) (ix1 o) := by
  refine Eq.trans ?_ (column256 _ o)
  show StableHlo.after hostOps0 (W0 m ρ c) (Proc.devRef .tc main_v5) _ = _
  entry_read
  rfl

/-- The second normalisation's shifts. -/
theorem v6 (o : Fin 256) : (V1 m ρ c main_v6 : FVec Ideal S256x1 .f32) (ix2 o 0)
    = (m ((c : Thread nD τ).loc main_arg11) : FVec Ideal S256 .f32) (ix1 o) := by
  refine Eq.trans ?_ (column256 _ o)
  show StableHlo.after hostOps0 (W0 m ρ c) (Proc.devRef .tc main_v6) _ = _
  entry_read
  rfl

end Cert.KernelIdeal.Entry

end
-- ==== Proof.Block0.lean ====
/-
  What one block of the first kernel computes, from blocks that hold real numbers: the row of squared distances, the masks
  of its three nearest places, their weights, the block of the first linear map, and the two column sums it adds to the
  statistics.
-/
module

public import proofs.«01_k».proof.Proof.Gen.KernelIdeal.Skeleton
public import proofs.«01_k».proof.Proof.Spec
public import Idealize.ShloMosaic.Lib.Pointwise

@[expose] public section

set_option maxRecDepth 16384

noncomputable section

open Idealize.ShloMosaic Idealize.ShloMosaic.TcCoe Idealize.SL.Sem

namespace Cert.KernelIdeal.Block0

open Cert.KernelIdeal Cert.KernelIdeal.Gen Cert.Nearest Cert.Spec

/-- The named constant `big` is `+∞`. -/
theorem named_big : (Named.named (F := Ideal) κ "big" (φ := .f32) 0x7149F2CA#32 : Ideal .f32) = (⊤ : EReal) :=
  IdealRules.named_const.ideal_named_scalar _ _ _ _ rfl

/-- A choice by a mask that is set where a proposition holds. -/
theorem select_ofBool {α : Type} (p : Prop) [Decidable p] (a b : α) :
    Scalar.select (BitVec.ofBool (decide p)) a b = if p then a else b := by
  unfold Scalar.select
  by_cases h : p
  · rw [if_pos h, decide_eq_true h]; rfl
  · rw [if_neg h, decide_eq_false h]; rfl

/-! ### The first selection -/

section First
variable (x0 : Vec Ideal S1x3x1024 .f32) (x2 x9 x17 : Vec Ideal S1x512x1 .f32)
  (P : Fin 512 → Fin 3 → ℝ) (Q : Fin 3 → Fin 1024 → ℝ)
  (h0 : ∀ a n, x0 (ix3 0 a n) = ((Q a n : ℝ) : EReal))
  (h2 : ∀ t, x2 (ix3 0 t 0) = ((P t 0 : ℝ) : EReal)) (h9 : ∀ t, x9 (ix3 0 t 0) = ((P t 1 : ℝ) : EReal))
  (h17 : ∀ t, x17 (ix3 0 t 0) = ((P t 2 : ℝ) : EReal))
include h0 h2 h9 h17

/-- The block of squared distances. -/
theorem pay2_row (t : Fin 512) (n : Fin 1024) : k0_pay2 x0 x2 x9 x17 (ix2 t n) = row (P t) Q n := by
  pointwise [k0_pay2]
  rw [h2, h9, h17, h0, h0, h0]
  unfold row dist2
  rw [Fin.sum_univ_three]
  push_cast
  rfl

/-- The least squared distance of each row. -/
theorem pay3_min (t : Fin 512) : k0_pay3 x0 x2 x9 x17 (ix2 t 0) = row (P t) Q (place (P t) Q 0) := by
  pointwise [k0_pay3]
  simp only [pay2_row x0 x2 x9 x17 P Q h0 h2 h9 h17]
  rw [ofBits_top]
  exact fold_min (row (P t) Q)

/-- The mask of the nearest place. -/
theorem pay4_mask (t : Fin 512) (n : Fin 1024) :
    k0_pay4 x0 x2 x9 x17 (ix2 t n) = BitVec.ofBool (decide (n = place (P t) Q 0)) := by
  pointwise [k0_pay4, k0_pay3]
  simp only [pay2_row x0 x2 x9 x17 P Q h0 h2 h9 h17]
  rw [ofBits_top]
  exact mask_word (row (P t) Q) _ (fun x => rfl) n

/-- The block of squared distances with the nearest lifted to `+∞`. -/
theorem pay5_lift (t : Fin 512) (n : Fin 1024) : k0_pay5 x0 x2 x9 x17 (ix2 t n) = lift (row (P t) Q) n := by
  pointwise [k0_pay5]
  rw [pay4_mask x0 x2 x9 x17 P Q h0 h2 h9 h17, pay2_row x0 x2 x9 x17 P Q h0 h2 h9 h17, select_ofBool, named_big]
  rfl

/-- The nearest squared distance, taken to be at least `tiny`. -/
theorem pay6_max (t : Fin 512) :
    k0_pay6 x0 x2 x9 x17 (ix2 t 0) = ((max (dist2 (P t) Q (place (P t) Q 0)) tiny : ℝ) : EReal) := by
  pointwise [k0_pay6]
  rw [pay3_min x0 x2 x9 x17 P Q h0 h2 h9 h17, coe_max]
  exact congrArg _ ofBits_tiny

end First

/-! ### The second and third selection, and the weights -/

section Rest
variable (v25 : IVec S512x1024 32) (v35 : IVec S512x1024 1) (v37 : FVec Ideal S512x1024 .f32)
  (v39 : FVec Ideal S512x1 .f32) (c : Ideal .f32)
  (P : Fin 512 → Fin 3 → ℝ) (Q : Fin 3 → Fin 1024 → ℝ)
  (hv : ∀ t n, v25 (ix2 t n) = BitVec.ofNat 32 n.val)
  (h37 : ∀ t n, v37 (ix2 t n) = lift (row (P t) Q) n)

section
include h37

/-- The least entry of each row once the nearest place is lifted. -/
theorem pay8_min (t : Fin 512) : k0_pay8 v37 (ix2 t 0) = row (P t) Q (place (P t) Q 1) := by
  pointwise [k0_pay8]
  simp only [h37]
  rw [ofBits_top]
  exact (fold_min (lift (row (P t) Q))).trans (lift_near1 (by decide) _ (fun x => EReal.coe_ne_top _))

/-- The inverse of the second nearest squared distance. -/
theorem pay11_inv (t : Fin 512) : k0_pay11 v37 (ix2 t 0) = ((inv (P t) Q 1 : ℝ) : EReal) := by
  pointwise [k0_pay11]
  rw [pay8_min v37 P Q h37]
  exact inv_ideal _ _ _

include hv

/-- The mask of the second nearest place. -/
theorem pay9_mask (t : Fin 512) (n : Fin 1024) :
    k0_pay9 v25 v37 (ix2 t n) = BitVec.ofBool (decide (n = place (P t) Q 1)) := by
  pointwise [k0_pay9, k0_pay8]
  simp only [h37]
  rw [ofBits_top]
  exact mask_word (lift (row (P t) Q)) (fun x => v25 (ix2 t x)) (fun x => hv t x) n

/-- The rows with the two nearest places lifted. -/
theorem pay10_lift (t : Fin 512) (n : Fin 1024) : k0_pay10 v25 v37 (ix2 t n) = lift (lift (row (P t) Q)) n := by
  pointwise [k0_pay10]
  rw [pay9_mask v25 v37 P Q hv h37, h37, select_ofBool, named_big]
  rfl

/-- The least entry of each row once the two nearest places are lifted. -/
theorem pay12_min (t : Fin 512) : k0_pay12 v25 v37 (ix2 t 0) = row (P t) Q (place (P t) Q 2) := by
  pointwise [k0_pay12]
  simp only [pay10_lift v25 v37 P Q hv h37]
  rw [ofBits_top]
  exact (fold_min (lift (lift (row (P t) Q)))).trans (lift_near2 (by decide) _ (fun x => EReal.coe_ne_top _))

/-- The mask of the third nearest place. -/
theorem pay13_mask (t : Fin 512) (n : Fin 1024) :
    k0_pay13 v25 v37 (ix2 t n) = BitVec.ofBool (decide (n = place (P t) Q 2)) := by
  pointwise [k0_pay13, k0_pay12]
  simp only [pay10_lift v25 v37 P Q hv h37]
  rw [ofBits_top]
  exact mask_word (lift (lift (row (P t) Q))) (fun x => v25 (ix2 t x)) (fun x => hv t x) n

/-- The inverse of the third nearest squared distance. -/
theorem pay14_inv (t : Fin 512) : k0_pay14 v25 v37 (ix2 t 0) = ((inv (P t) Q 2 : ℝ) : EReal) := by
  pointwise [k0_pay14]
  rw [pay12_min v25 v37 P Q hv h37]
  exact inv_ideal _ _ _

end

end Rest

end Cert.KernelIdeal.Block0

end
-- ==== Proof.Mix0.lean ====
/-
  The block of the first linear map, and the statistics it adds, from blocks that hold real numbers: the weights laid out
  as masked rows, the features summed against them, and the linear map over both kinds of feature.
-/
module

public import proofs.«01_k».proof.Proof.Block0

@[expose] public section

set_option maxRecDepth 16384

noncomputable section

open Idealize.ShloMosaic Idealize.ShloMosaic.TcCoe Idealize.SL.Sem

namespace Cert.KernelIdeal.Block0

open Cert.KernelIdeal Cert.KernelIdeal.Gen Cert.Nearest Cert.Spec

section Weights
variable (v25 : IVec S512x1024 32) (v35 : IVec S512x1024 1) (v37 : FVec Ideal S512x1024 .f32)
  (v39 : FVec Ideal S512x1 .f32) (c : Ideal .f32)
  (P : Fin 512 → Fin 3 → ℝ) (Q : Fin 3 → Fin 1024 → ℝ)
  (hv : ∀ t n, v25 (ix2 t n) = BitVec.ofNat 32 n.val)
  (h35 : ∀ t n, v35 (ix2 t n) = BitVec.ofBool (decide (n = place (P t) Q 0)))
  (h37 : ∀ t n, v37 (ix2 t n) = lift (row (P t) Q) n)
  (h39 : ∀ t, v39 (ix2 t 0) = ((max (dist2 (P t) Q (place (P t) Q 0)) tiny : ℝ) : EReal))
  (hc : c = (1 : EReal))

/-- The inverse of the nearest squared distance. -/
theorem pay7_inv (h39 : ∀ t, v39 (ix2 t 0) = ((max (dist2 (P t) Q (place (P t) Q 0)) tiny : ℝ) : EReal))
    (hc : c = (1 : EReal)) (t : Fin 512) : k0_pay7 v39 c (ix2 t 0) = ((inv (P t) Q 0 : ℝ) : EReal) := by
  pointwise [k0_pay7]
  rw [h39, hc, ← EReal.coe_one, div_coe' _ _ (lt_max_of_lt_right tiny_pos).ne']
  rfl

include hv h37 h39 hc

/-- The inverse of the sum of the three inverses. -/
theorem pay15_inv (t : Fin 512) : k0_pay15 v25 v37 v39 c (ix2 t 0) = ((1 / ∑ k, inv (P t) Q k : ℝ) : EReal) := by
  pointwise [k0_pay15]
  rw [pay7_inv v39 c P Q h39 hc, pay11_inv v37 P Q h37, pay14_inv v25 v37 P Q hv h37, ← EReal.coe_add, ← EReal.coe_add,
    ← Fin.sum_univ_three (fun k => inv (P t) Q k), ← EReal.coe_one, div_coe' _ _ (sum_inv_pos _ _).ne']

/-- The nearest place's masked weight. -/
theorem pay16_weight (h35 : ∀ t n, v35 (ix2 t n) = BitVec.ofBool (decide (n = place (P t) Q 0))) (t : Fin 512)
    (n : Fin 1024) : k0_pay16 v25 v35 v37 v39 c (ix2 t n)
      = (((if n = place (P t) Q 0 then weight (P t) Q 0 else 0 : ℝ)) : EReal) := by
  pointwise [k0_pay16]
  rw [h35, select_ofBool, pay7_inv v39 c P Q h39 hc, pay15_inv v25 v37 v39 c P Q hv h37 h39 hc, ← EReal.coe_mul,
    ← EReal.coe_zero, mul_one_div, apply_ite (fun r : ℝ => (r : EReal))]
  rfl

/-- The second nearest place's masked weight. -/
theorem pay17_weight (t : Fin 512) (n : Fin 1024) : k0_pay17 v25 v37 v39 c (ix2 t n)
      = (((if n = place (P t) Q 1 then weight (P t) Q 1 else 0 : ℝ)) : EReal) := by
  pointwise [k0_pay17]
  rw [pay9_mask v25 v37 P Q hv h37, select_ofBool, pay11_inv v37 P Q h37,
    pay15_inv v25 v37 v39 c P Q hv h37 h39 hc, ← EReal.coe_mul, ← EReal.coe_zero, mul_one_div,
    apply_ite (fun r : ℝ => (r : EReal))]
  rfl

end Weights

section Map
variable (v67 : IVec S512x1024 1) (v71 v75 : FVec Ideal S512x1 .f32) (v80 v85 : FVec Ideal S512x1024 .f32)
  (v93 : Vec Ideal S1x512x1024 .f32) (v96 : Vec Ideal S512x512 .f32) (v98 : Vec Ideal S512x256 .f32)
  (v99 : Vec Ideal S1x256x512 .f32) (v103 : Vec Ideal S512x1 .f32)
  (P : Fin 512 → Fin 3 → ℝ) (Q : Fin 3 → Fin 1024 → ℝ) (f : Fin 512 → Fin 1024 → ℝ) (e : Fin 256 → Fin 512 → ℝ)
  (w : Fin 512 → Fin 768 → ℝ) (b : Fin 512 → ℝ)
  (h67 : ∀ t n, v67 (ix2 t n) = BitVec.ofBool (decide (n = place (P t) Q 2)))
  (h71 : ∀ t, v71 (ix2 t 0) = ((inv (P t) Q 2 : ℝ) : EReal))
  (h75 : ∀ t, v75 (ix2 t 0) = ((1 / ∑ k, inv (P t) Q k : ℝ) : EReal))
  (h80 : ∀ t n, v80 (ix2 t n) = (((if n = place (P t) Q 0 then weight (P t) Q 0 else 0 : ℝ)) : EReal))
  (h85 : ∀ t n, v85 (ix2 t n) = (((if n = place (P t) Q 1 then weight (P t) Q 1 else 0 : ℝ)) : EReal))
  (h93 : ∀ x n, v93 (ix3 0 x n) = ((f x n : ℝ) : EReal))
  (h96 : ∀ o x, v96 (ix2 o x) = ((w o (Fin.castAdd 256 x) : ℝ) : EReal))
  (h98 : ∀ o x, v98 (ix2 o x) = ((w o (Fin.natAdd 512 x) : ℝ) : EReal))
  (h99 : ∀ x t, v99 (ix3 0 x t) = ((e x t : ℝ) : EReal))
  (h103 : ∀ o, v103 (ix2 o 0) = ((b o : ℝ) : EReal))
include h67 h71 h75 h80 h85 h93 h96 h98 h99 h103

/-- The block of the first linear map. -/
theorem pay18_mix (o t : Fin 512) : k0_pay18 v67 v71 v75 v80 v85 v93 v96 v98 v99 v103 (ix2 o t)
    = ((mix (P t) Q f (fun x => e x t) (w o) (b o) : ℝ) : EReal) := by
  pointwise [k0_pay18]
  have hz : ∀ (n : Fin 1024), Scalar.select (BitVec.ofBool (decide (n = place (P t) Q 2)))
      (((inv (P t) Q 2 : ℝ) : EReal) * ((1 / ∑ k, inv (P t) Q k : ℝ) : EReal)) 0
      = (((if n = place (P t) Q 2 then weight (P t) Q 2 else 0 : ℝ)) : EReal) := fun n => by
    rw [select_ofBool, ← EReal.coe_mul, ← EReal.coe_zero, mul_one_div, apply_ite (fun r : ℝ => (r : EReal))]
    rfl
  simp only [h67, h71, h75, h80, h85, hz]
  simp only [h93, h96, h98, h99, h103, ← EReal.coe_add, ← EReal.coe_mul, ← coe_sum,
    interp_mask]
  rfl

/-- The row sums of the block. -/
theorem pay21_sum (o : Fin 512) : k0_pay21 v67 v71 v75 v80 v85 v93 v96 v98 v99 v103 (ix2 o 0)
    = ((∑ t : Fin 512, mix (P t) Q f (fun x => e x t) (w o) (b o) : ℝ) : EReal) := by
  pointwise [k0_pay21]
  simp only [pay18_mix v67 v71 v75 v80 v85 v93 v96 v98 v99 v103 P Q f e w b h67 h71 h75 h80 h85 h93 h96 h98 h99 h103,
    coe_sum]

/-- The row sums of the block's squares. -/
theorem pay22_sum (o : Fin 512) : k0_pay22 v67 v71 v75 v80 v85 v93 v96 v98 v99 v103 (ix2 o 0)
    = ((∑ t : Fin 512, mix (P t) Q f (fun x => e x t) (w o) (b o) * mix (P t) Q f (fun x => e x t) (w o) (b o) : ℝ)
      : EReal) := by
  pointwise [k0_pay22]
  simp only [pay18_mix v67 v71 v75 v80 v85 v93 v96 v98 v99 v103 P Q f e w b h67 h71 h75 h80 h85 h93 h96 h98 h99 h103,
    coe_sum, EReal.coe_mul]

end Map

/-- The statistics with a block's row sums added: the first column takes the sums. -/
theorem pay1_left (s q : FVec Ideal S512x1 .f32) (a : Vec Ideal S512x2 .f32) (o : Fin 512) :
    k0_pay1 s q a (ix2 o 0) = a (ix2 o 0) + s (ix2 o 0) := by
  pointwise [k0_pay1]

/-- The second column takes the sums of squares. -/
theorem pay1_right (s q : FVec Ideal S512x1 .f32) (a : Vec Ideal S512x2 .f32) (o : Fin 512) :
    k0_pay1 s q a (ix2 o 1) = a (ix2 o 1) + q (ix2 o 0) := by
  pointwise [k0_pay1]

end Cert.KernelIdeal.Block0

end
-- ==== Proof.Whole0.lean ====
/-
  The first call's body as one function of the blocks it loads, and that function on blocks that hold real numbers.
-/
module

public import proofs.«01_k».proof.Proof.Mix0

@[expose] public section

set_option maxRecDepth 16384

noncomputable section

open Idealize.ShloMosaic Idealize.ShloMosaic.TcCoe Idealize.SL.Sem

namespace Cert.KernelIdeal.Block0

open Cert.KernelIdeal Cert.KernelIdeal.Gen Cert.Nearest Cert.Spec

/-- The positions along a row. -/
abbrev places : IVec S512x1024 32 := iota Kind.tc S512x1024 32 [1] iota_S512x1024_d1_w32

/-- The literal one. -/
abbrev one : Ideal .f32 := FloatOps.ofBits .f32 0x3F800000#32

/-- The place numbers, read at a place. -/
theorem places_read (t : Fin 512) (n : Fin 1024) : places (ix2 t n) = BitVec.ofNat 32 n.val := by
  pointwise [places]

/-- The literal one. -/
theorem one_eq : one = (1 : EReal) := Ideal.ofBits_one_f32

section
variable (x1 : Vec Ideal S1x3x1024 .f32) (c0 c1 c2 : Vec Ideal S1x512x1 .f32) (x2 : Vec Ideal S1x512x1024 .f32)
  (wl : Vec Ideal S512x512 .f32) (wr : Vec Ideal S512x256 .f32) (x3 : Vec Ideal S1x256x512 .f32)
  (x5 : Vec Ideal S512x1 .f32)

/-- The block as it is stored. -/
abbrev stored : FVec Ideal S1x512x512 .f32 :=
  k0_pay19 (k0_pay13 places (k0_pay5 x1 c0 c1 c2)) (k0_pay14 places (k0_pay5 x1 c0 c1 c2))
    (k0_pay15 places (k0_pay5 x1 c0 c1 c2) (k0_pay6 x1 c0 c1 c2) one)
    (k0_pay16 places (k0_pay4 x1 c0 c1 c2) (k0_pay5 x1 c0 c1 c2) (k0_pay6 x1 c0 c1 c2) one)
    (k0_pay17 places (k0_pay5 x1 c0 c1 c2) (k0_pay6 x1 c0 c1 c2) one) x2 wl wr x3 x5

/-- The block's row sums. -/
abbrev sums : FVec Ideal S512x1 .f32 :=
  k0_pay21 (k0_pay13 places (k0_pay5 x1 c0 c1 c2)) (k0_pay14 places (k0_pay5 x1 c0 c1 c2))
    (k0_pay15 places (k0_pay5 x1 c0 c1 c2) (k0_pay6 x1 c0 c1 c2) one)
    (k0_pay16 places (k0_pay4 x1 c0 c1 c2) (k0_pay5 x1 c0 c1 c2) (k0_pay6 x1 c0 c1 c2) one)
    (k0_pay17 places (k0_pay5 x1 c0 c1 c2) (k0_pay6 x1 c0 c1 c2) one) x2 wl wr x3 x5

/-- The row sums of the block's squares. -/
abbrev squares : FVec Ideal S512x1 .f32 :=
  k0_pay22 (k0_pay13 places (k0_pay5 x1 c0 c1 c2)) (k0_pay14 places (k0_pay5 x1 c0 c1 c2))
    (k0_pay15 places (k0_pay5 x1 c0 c1 c2) (k0_pay6 x1 c0 c1 c2) one)
    (k0_pay16 places (k0_pay4 x1 c0 c1 c2) (k0_pay5 x1 c0 c1 c2) (k0_pay6 x1 c0 c1 c2) one)
    (k0_pay17 places (k0_pay5 x1 c0 c1 c2) (k0_pay6 x1 c0 c1 c2) one) x2 wl wr x3 x5

/-- What the loaded blocks hold. -/
structure Loads (P : Fin 512 → Fin 3 → ℝ) (Q : Fin 3 → Fin 1024 → ℝ) (f : Fin 512 → Fin 1024 → ℝ)
    (e : Fin 256 → Fin 512 → ℝ) (w : Fin 512 → Fin 768 → ℝ) (b : Fin 512 → ℝ) : Prop where
  h1 : ∀ a n, x1 (ix3 0 a n) = ((Q a n : ℝ) : EReal)
  hc0 : ∀ t, c0 (ix3 0 t 0) = ((P t 0 : ℝ) : EReal)
  hc1 : ∀ t, c1 (ix3 0 t 0) = ((P t 1 : ℝ) : EReal)
  hc2 : ∀ t, c2 (ix3 0 t 0) = ((P t 2 : ℝ) : EReal)
  h2 : ∀ x n, x2 (ix3 0 x n) = ((f x n : ℝ) : EReal)
  hl : ∀ o x, wl (ix2 o x) = ((w o (Fin.castAdd 256 x) : ℝ) : EReal)
  hr : ∀ o x, wr (ix2 o x) = ((w o (Fin.natAdd 512 x) : ℝ) : EReal)
  h3 : ∀ x t, x3 (ix3 0 x t) = ((e x t : ℝ) : EReal)
  h5 : ∀ o, x5 (ix2 o 0) = ((b o : ℝ) : EReal)

variable (P : Fin 512 → Fin 3 → ℝ) (Q : Fin 3 → Fin 1024 → ℝ) (f : Fin 512 → Fin 1024 → ℝ)
    (e : Fin 256 → Fin 512 → ℝ) (w : Fin 512 → Fin 768 → ℝ) (b : Fin 512 → ℝ)
    (H : Loads x1 c0 c1 c2 x2 wl wr x3 x5 P Q f e w b)
include H

/-- The stored block: the first linear map at each of its points. -/
theorem stored_mix (o t : Fin 512) : stored x1 c0 c1 c2 x2 wl wr x3 x5 (ix3 0 o t)
    = ((mix (P t) Q f (fun x => e x t) (w o) (b o) : ℝ) : EReal) := by
  have h35 := pay4_mask x1 c0 c1 c2 P Q H.h1 H.hc0 H.hc1 H.hc2
  have h37 := pay5_lift x1 c0 c1 c2 P Q H.h1 H.hc0 H.hc1 H.hc2
  have h39 := pay6_max x1 c0 c1 c2 P Q H.h1 H.hc0 H.hc1 H.hc2
  refine Eq.trans ?_ (pay18_mix _ _ _ _ _ x2 wl wr x3 x5 P Q f e w b
    (pay13_mask places _ P Q places_read h37) (pay14_inv places _ P Q places_read h37)
    (pay15_inv places _ _ one P Q places_read h37 h39 one_eq)
    (pay16_weight places _ _ _ one P Q places_read h37 h39 one_eq h35)
    (pay17_weight places _ _ one P Q places_read h37 h39 one_eq) H.h2 H.hl H.hr H.h3 H.h5 o t)
  unfold stored
  generalize k0_pay13 places (k0_pay5 x1 c0 c1 c2) = v67
  generalize k0_pay14 places (k0_pay5 x1 c0 c1 c2) = v71
  generalize k0_pay15 places (k0_pay5 x1 c0 c1 c2) (k0_pay6 x1 c0 c1 c2) one = v75
  generalize k0_pay16 places (k0_pay4 x1 c0 c1 c2) (k0_pay5 x1 c0 c1 c2) (k0_pay6 x1 c0 c1 c2) one = v80
  generalize k0_pay17 places (k0_pay5 x1 c0 c1 c2) (k0_pay6 x1 c0 c1 c2) one = v85
  unfold k0_pay19
  generalize k0_pay18 v67 v71 v75 v80 v85 x2 wl wr x3 x5 = v
  pointwise []

/-- The row sums. -/
theorem sums_eq (o : Fin 512) : sums x1 c0 c1 c2 x2 wl wr x3 x5 (ix2 o 0)
    = ((∑ t : Fin 512, mix (P t) Q f (fun x => e x t) (w o) (b o) : ℝ) : EReal) := by
  have h35 := pay4_mask x1 c0 c1 c2 P Q H.h1 H.hc0 H.hc1 H.hc2
  have h37 := pay5_lift x1 c0 c1 c2 P Q H.h1 H.hc0 H.hc1 H.hc2
  have h39 := pay6_max x1 c0 c1 c2 P Q H.h1 H.hc0 H.hc1 H.hc2
  exact pay21_sum _ _ _ _ _ x2 wl wr x3 x5 P Q f e w b
    (pay13_mask places _ P Q places_read h37) (pay14_inv places _ P Q places_read h37)
    (pay15_inv places _ _ one P Q places_read h37 h39 one_eq)
    (pay16_weight places _ _ _ one P Q places_read h37 h39 one_eq h35)
    (pay17_weight places _ _ one P Q places_read h37 h39 one_eq) H.h2 H.hl H.hr H.h3 H.h5 o

/-- The row sums of squares. -/
theorem squares_eq (o : Fin 512) : squares x1 c0 c1 c2 x2 wl wr x3 x5 (ix2 o 0)
    = ((∑ t : Fin 512, mix (P t) Q f (fun x => e x t) (w o) (b o) * mix (P t) Q f (fun x => e x t) (w o) (b o) : ℝ)
      : EReal) := by
  have h35 := pay4_mask x1 c0 c1 c2 P Q H.h1 H.hc0 H.hc1 H.hc2
  have h37 := pay5_lift x1 c0 c1 c2 P Q H.h1 H.hc0 H.hc1 H.hc2
  have h39 := pay6_max x1 c0 c1 c2 P Q H.h1 H.hc0 H.hc1 H.hc2
  exact pay22_sum _ _ _ _ _ x2 wl wr x3 x5 P Q f e w b
    (pay13_mask places _ P Q places_read h37) (pay14_inv places _ P Q places_read h37)
    (pay15_inv places _ _ one P Q places_read h37 h39 one_eq)
    (pay16_weight places _ _ _ one P Q places_read h37 h39 one_eq h35)
    (pay17_weight places _ _ one P Q places_read h37 h39 one_eq) H.h2 H.hl H.hr H.h3 H.h5 o

end

/-- The statistics start at zero. -/
theorem pay20_read (o : Fin 512) (a : Fin 2) : k0_pay20 (F := Ideal) (ix2 o a) = (0 : EReal) := by
  pointwise [k0_pay20]

end Cert.KernelIdeal.Block0

end
-- ==== Proof.Region0.lean ====
/-
  The first call: where its blocks lie, what they read, and the words its body leaves at every point.
-/
module

public import proofs.«01_k».proof.Proof.Whole0
public import proofs.«01_k».proof.Proof.Layer
public import proofs.«01_k».proof.Proof.Points
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.Spec Cert.Points Cert.KernelIdeal.Block0

/-- Where each window's block lies at every point. -/
theorem idx : ∀ t : Fin cfg0.N, win0_0.index t = ![t.val / 8 % 16, t.val % 8, 0]
    ∧ win0_1.index t = ![t.val / 8 % 16, 0, 0] ∧ win0_2.index t = ![t.val / 8 % 16, 0, 0]
    ∧ win0_3.index t = ![t.val / 8 % 16, 0, t.val % 8] ∧ win0_4.index t = ![0, 0] ∧ win0_5.index t = ![0, 0]
    ∧ win0_6.index t = ![t.val / 8 % 16, 0, t.val % 8] ∧ win0_7.index t = ![0, 0] :=
  (by decide +kernel : ∀ t : Fin grid0.N, _)

variable (V : (c : Dev nD) → (b : Ref sig .tc) → Buf (Elt Ideal) ((c : Thread nD τ).loc b)) (c : Dev nD)
  (A0 : FVec Ideal S16x4096x3 .f32) (A1 : FVec Ideal S16x3x1024 .f32) (A2 : FVec Ideal S16x512x1024 .f32)
  (A3 : FVec Ideal S16x256x4096 .f32) (A4 : FVec Ideal S512x768 .f32) (A5 : FVec Ideal S512x1 .f32)
  (e0 : V c (Pipeline.arrRef spec0 0) = A0) (e1 : V c (Pipeline.arrRef spec0 1) = A1)
  (e2 : V c (Pipeline.arrRef spec0 2) = A2) (e3 : V c (Pipeline.arrRef spec0 3) = A3)
  (e4 : V c (Pipeline.arrRef spec0 4) = A4) (e5 : V c (Pipeline.arrRef spec0 5) = A5)

include e0 in
/-- A point's block of targets, read off the array. -/
theorem read0 (t : Fin cfg0.N) (j : Fin 512) (a : Fin 3) :
    iblk0 V c 0 t (ix3 0 j a) = A0 (ix3 (pt t.val) (col t.val j) a) := by
  unfold iblk0
  rw [e0]
  blk_ext [idx t, pt, col]

include e1 in
/-- A point's block of reference points, read off the array. -/
theorem read1 (t : Fin cfg0.N) (a : Fin 3) (n : Fin 1024) :
    iblk0 V c 1 t (ix3 0 a n) = A1 (ix3 (pt t.val) a n) := by
  unfold iblk0
  rw [e1]
  blk_ext [idx t, pt]

include e2 in
/-- A point's block of features to interpolate, read off the array. -/
theorem read2 (t : Fin cfg0.N) (x : Fin 512) (n : Fin 1024) :
    iblk0 V c 2 t (ix3 0 x n) = A2 (ix3 (pt t.val) x n) := by
  unfold iblk0
  rw [e2]
  blk_ext [idx t, pt]

include e3 in
/-- A point's block of features passed through, read off the array. -/
theorem read3 (t : Fin cfg0.N) (x : Fin 256) (j : Fin 512) :
    iblk0 V c 3 t (ix3 0 x j) = A3 (ix3 (pt t.val) x (col t.val j)) := by
  unfold iblk0
  rw [e3]
  blk_ext [idx t, pt, col]

include e4 in
/-- Every point sees the whole weight matrix. -/
theorem read4 (t : Fin cfg0.N) : iblk0 V c 4 t = A4 := by
  unfold iblk0
  rw [e4]
  blk_ext! [idx t]

include e5 in
/-- Every point sees the whole bias. -/
theorem read5 (t : Fin cfg0.N) : iblk0 V c 5 t = A5 := by
  unfold iblk0
  rw [e5]
  blk_ext! [idx t]

/-- Column `a` of the point's block of query points, as the body loads it. -/
abbrev colAt (x : Vec Ideal S1x512x3 .f32) (off : Fin 3 → Nat)
    (inb : ∀ a, off a + S1x512x1.size a ≤ S1x512x3.size a) : Vec Ideal S1x512x1 .f32 :=
  View.ld x (Rect.unit (s := S1x512x3) off S1x512x1.size inb)

/-- The left part of the weights, as the body loads it. -/
abbrev wLeft (x : Vec Ideal S512x768 .f32) : Vec Ideal S512x512 .f32 :=
  View.ld x (Rect.unit (s := S512x768) ![0, 0] S512x512.size inb_S512x768_S512x512_0_0)

/-- The right part of the weights. -/
abbrev wRight (x : Vec Ideal S512x768 .f32) : Vec Ideal S512x256 .f32 :=
  View.ld x (Rect.unit (s := S512x768) ![0, 512] S512x256.size inb_S512x768_S512x256_0_512)

/-- The block's first coordinate column, read at a target. -/
theorem colAt0 (x : Vec Ideal S1x512x3 .f32) (inb) (j : Fin 512) :
    colAt x ![0, 0, 0] inb (ix3 0 j 0) = x (ix3 0 j 0) := by
  unfold colAt
  rw [View.ld_apply]
  congr 1
  funext a
  match a with
  | ⟨0, _⟩ => exact Fin.ext (by simp)
  | ⟨1, _⟩ => exact Fin.ext (by simp)
  | ⟨2, _⟩ => exact Fin.ext (by simp)

/-- The block's second coordinate column, read at a target. -/
theorem colAt1 (x : Vec Ideal S1x512x3 .f32) (inb) (j : Fin 512) :
    colAt x ![0, 0, 1] inb (ix3 0 j 0) = x (ix3 0 j 1) := by
  unfold colAt
  rw [View.ld_apply]
  congr 1
  funext a
  match a with
  | ⟨0, _⟩ => exact Fin.ext (by simp)
  | ⟨1, _⟩ => exact Fin.ext (by simp)
  | ⟨2, _⟩ => exact Fin.ext (by simp)

/-- The block's third coordinate column, read at a target. -/
theorem colAt2 (x : Vec Ideal S1x512x3 .f32) (inb) (j : Fin 512) :
    colAt x ![0, 0, 2] inb (ix3 0 j 0) = x (ix3 0 j 2) := by
  unfold colAt
  rw [View.ld_apply]
  congr 1
  funext a
  match a with
  | ⟨0, _⟩ => exact Fin.ext (by simp)
  | ⟨1, _⟩ => exact Fin.ext (by simp)
  | ⟨2, _⟩ => exact Fin.ext (by simp)

/-- The weights' first 512 columns, those of the interpolated features. -/
theorem wLeft_read (x : Vec Ideal S512x768 .f32) (o i : Fin 512) :
    wLeft x (ix2 o i) = x (ix2 o (Fin.castAdd 256 i : Fin (512 + 256))) := by
  unfold wLeft
  rw [View.ld_apply]
  congr 1
  funext a
  match a with
  | ⟨0, _⟩ => exact Fin.ext (by simp)
  | ⟨1, _⟩ => exact Fin.ext (by simp)

/-- The weights' last 256 columns, those of the features passed through. -/
theorem wRight_read (x : Vec Ideal S512x768 .f32) (o : Fin 512) (i : Fin 256) :
    wRight x (ix2 o i) = x (ix2 o (Fin.natAdd 512 i : Fin (512 + 256))) := by
  unfold wRight
  rw [View.ld_apply]
  congr 1
  funext a
  match a with
  | ⟨0, _⟩ => exact Fin.ext (by simp)
  | ⟨1, _⟩ => exact Fin.ext (by simp)

/-- The stored block at a point. -/
abbrev blockAt (t : Fin cfg0.N) : FVec Ideal S1x512x512 .f32 :=
  stored (iblk0 V c 1 t) (colAt (iblk0 V c 0 t) ![0, 0, 0] inb_S1x512x3_S1x512x1_0_0_0)
    (colAt (iblk0 V c 0 t) ![0, 0, 1] inb_S1x512x3_S1x512x1_0_0_1)
    (colAt (iblk0 V c 0 t) ![0, 0, 2] inb_S1x512x3_S1x512x1_0_0_2) (iblk0 V c 2 t) (wLeft (iblk0 V c 4 t))
    (wRight (iblk0 V c 4 t)) (iblk0 V c 3 t) (iblk0 V c 5 t)

/-- Its row sums. -/
abbrev sumsAt (t : Fin cfg0.N) : FVec Ideal S512x1 .f32 :=
  sums (iblk0 V c 1 t) (colAt (iblk0 V c 0 t) ![0, 0, 0] inb_S1x512x3_S1x512x1_0_0_0)
    (colAt (iblk0 V c 0 t) ![0, 0, 1] inb_S1x512x3_S1x512x1_0_0_1)
    (colAt (iblk0 V c 0 t) ![0, 0, 2] inb_S1x512x3_S1x512x1_0_0_2) (iblk0 V c 2 t) (wLeft (iblk0 V c 4 t))
    (wRight (iblk0 V c 4 t)) (iblk0 V c 3 t) (iblk0 V c 5 t)

/-- The row sums of its squares. -/
abbrev squaresAt (t : Fin cfg0.N) : FVec Ideal S512x1 .f32 :=
  squares (iblk0 V c 1 t) (colAt (iblk0 V c 0 t) ![0, 0, 0] inb_S1x512x3_S1x512x1_0_0_0)
    (colAt (iblk0 V c 0 t) ![0, 0, 1] inb_S1x512x3_S1x512x1_0_0_1)
    (colAt (iblk0 V c 0 t) ![0, 0, 2] inb_S1x512x3_S1x512x1_0_0_2) (iblk0 V c 2 t) (wLeft (iblk0 V c 4 t))
    (wRight (iblk0 V c 4 t)) (iblk0 V c 3 t) (iblk0 V c 5 t)

/-- At the first point the statistics start from zero. -/
theorem first (t : Fin cfg0.N) (h : t.val % 128 = 0) : outsAt0 V c t.val t.isLt
    = (blockAt V c t, k0_pay1 (sumsAt V c t) (squaresAt V c t) (k0_pay20 (F := Ideal))) := by
  rw [outsAt0_A V c t h]
  frame_out

/-- At every other point the block's row sums are added to what the point before left. -/
theorem later (t : Fin cfg0.N) (h : ¬ t.val % 128 = 0) : outsAt0 V c t.val t.isLt
    = (blockAt V c t, k0_pay1 (sumsAt V c t) (squaresAt V c t)
        (outsAt0 V c (t.val - 1) (Nat.lt_of_le_of_lt (Nat.sub_le _ _) t.isLt)).2) := by
  rw [outsAt0_B V c t h]
  frame_out

/-- Whatever the point, the stored block is the block. -/
theorem stored_at (t : Fin cfg0.N) : (outsAt0 V c t.val t.isLt).1 = blockAt V c t := by
  by_cases h : t.val % 128 = 0
  · rw [first V c t h]
  · rw [later V c t h]

end Cert.KernelIdeal.Region0

end
-- ==== Proof.Stats0.lean ====
/-
  What the first call's arrays hold: the first linear map at every point of the batch, and each of its channels' sum and
  sum of squares.
-/
module

public import proofs.«01_k».proof.Proof.Region0

@[expose] public section

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Cert.Spec Cert.Points Cert.KernelIdeal.Block0

variable (V : (c : Dev nD) → (b : Ref sig .tc) → Buf (Elt Ideal) ((c : Thread nD τ).loc b)) (c : Dev nD)

/-- The statistics array after the run is what the last point left. -/
theorem last (n : ℕ) (hn : n < cfg0.N) (h : n % 128 = 127) : (dat0 V c).arrAt 7 cfg0.N = (outsAt0 V c n hn).2 := by
  refine (dat0 V c).arrAt_eq_of_covers 7 _ (by decide +kernel) fun t hf x => ?_
  have ht : t = ⟨n, hn⟩ := by
    have h1 := (flush0_7 t).mp hf
    have h2 : t.val < 128 := lt_of_lt_of_eq t.isLt (show cfg0.N = 128 from N_0)
    have h3 : n < 128 := lt_of_lt_of_eq hn (show cfg0.N = 128 from N_0)
    exact Fin.ext (by show t.val = n; omega)
  subst ht
  have he : ((cfg0.win 7).blk ⟨n, hn⟩).view.emb x = x := by
    blk_ext [idx ⟨n, hn⟩]
  rw [he]
  blk_simp
  rw [after0_7]

variable (A0 : FVec Ideal S16x4096x3 .f32) (A1 : FVec Ideal S16x3x1024 .f32) (A2 : FVec Ideal S16x512x1024 .f32)
  (A3 : FVec Ideal S16x256x4096 .f32) (A4 : FVec Ideal S512x768 .f32) (A5 : FVec Ideal S512x1 .f32)
  (e0 : V c (Pipeline.arrRef spec0 0) = A0) (e1 : V c (Pipeline.arrRef spec0 1) = A1)
  (e2 : V c (Pipeline.arrRef spec0 2) = A2) (e3 : V c (Pipeline.arrRef spec0 3) = A3)
  (e4 : V c (Pipeline.arrRef spec0 4) = A4) (e5 : V c (Pipeline.arrRef spec0 5) = A5)

/-- What the six arrays hold. -/
structure Holds (p : Fin 16 → Fin 3 → Fin 1024 → ℝ) (q : Fin 16 → Fin 3 → Fin 4096 → ℝ)
    (f : Fin 16 → Fin 512 → Fin 1024 → ℝ) (e : Fin 16 → Fin 256 → Fin 4096 → ℝ) (w : Fin 512 → Fin 768 → ℝ)
    (d : Fin 512 → ℝ) : Prop where
  h0 : ∀ b t a, A0 (ix3 b t a) = ((q b a t : ℝ) : EReal)
  h1 : ∀ b a n, A1 (ix3 b a n) = ((p b a n : ℝ) : EReal)
  h2 : ∀ b x n, A2 (ix3 b x n) = ((f b x n : ℝ) : EReal)
  h3 : ∀ b x t, A3 (ix3 b x t) = ((e b x t : ℝ) : EReal)
  h4 : ∀ o x, A4 (ix2 o x) = ((w o x : ℝ) : EReal)
  h5 : ∀ o, A5 (ix2 o 0) = ((d o : ℝ) : EReal)

variable (p : Fin 16 → Fin 3 → Fin 1024 → ℝ) (q : Fin 16 → Fin 3 → Fin 4096 → ℝ)
  (f : Fin 16 → Fin 512 → Fin 1024 → ℝ) (e : Fin 16 → Fin 256 → Fin 4096 → ℝ) (w : Fin 512 → Fin 768 → ℝ)
  (d : Fin 512 → ℝ) (H : Holds A0 A1 A2 A3 A4 A5 p q f e w d)

include e0 e1 e2 e3 e4 e5 H

/-- What a point loads. -/
theorem loads (t : Fin cfg0.N) : Loads (iblk0 V c 1 t) (colAt (iblk0 V c 0 t) ![0, 0, 0] inb_S1x512x3_S1x512x1_0_0_0)
    (colAt (iblk0 V c 0 t) ![0, 0, 1] inb_S1x512x3_S1x512x1_0_0_1)
    (colAt (iblk0 V c 0 t) ![0, 0, 2] inb_S1x512x3_S1x512x1_0_0_2) (iblk0 V c 2 t) (wLeft (iblk0 V c 4 t))
    (wRight (iblk0 V c 4 t)) (iblk0 V c 3 t) (iblk0 V c 5 t)
    (fun j a => q (pt t.val) a (col t.val j)) (p (pt t.val)) (f (pt t.val)) (fun x j => e (pt t.val) x (col t.val j)) w d where
  h1 a n := (read1 V c A1 e1 t a n).trans (H.h1 _ _ _)
  hc0 j := (colAt0 _ _ j).trans ((read0 V c A0 e0 t j 0).trans (H.h0 _ _ _))
  hc1 j := (colAt1 _ _ j).trans ((read0 V c A0 e0 t j 1).trans (H.h0 _ _ _))
  hc2 j := (colAt2 _ _ j).trans ((read0 V c A0 e0 t j 2).trans (H.h0 _ _ _))
  h2 x n := (read2 V c A2 e2 t x n).trans (H.h2 _ _ _)
  hl o x := (wLeft_read _ o x).trans ((congrFun (read4 V c A4 e4 t) _).trans (H.h4 _ _))
  hr o x := (wRight_read _ o x).trans ((congrFun (read4 V c A4 e4 t) _).trans (H.h4 _ _))
  h3 x j := (read3 V c A3 e3 t x j).trans (H.h3 _ _ _)
  h5 o := (congrFun (read5 V c A5 e5 t) _).trans (H.h5 _)

/-- The block at a point. -/
theorem block_eq (t : Fin cfg0.N) (o j : Fin 512) :
    blockAt V c t (ix3 0 o j) = ((firstMap p q f e w d o (pt t.val) (col t.val j) : ℝ) : EReal) :=
  stored_mix _ _ _ _ _ _ _ _ _ _ _ _ _ _ _ (loads V c A0 A1 A2 A3 A4 A5 e0 e1 e2 e3 e4 e5 p q f e w d H t) o j

/-- The block's row sums. -/
theorem block_sum (t : Fin cfg0.N) (o : Fin 512) : sumsAt V c t (ix2 o 0)
    = ((∑ j : Fin 512, firstMap p q f e w d o (pt t.val) (col t.val j) : ℝ) : EReal) :=
  sums_eq _ _ _ _ _ _ _ _ _ _ _ _ _ _ _ (loads V c A0 A1 A2 A3 A4 A5 e0 e1 e2 e3 e4 e5 p q f e w d H t) o

/-- The row sums of the block's squares. -/
theorem block_sq (t : Fin cfg0.N) (o : Fin 512) : squaresAt V c t (ix2 o 0)
    = ((∑ j : Fin 512, firstMap p q f e w d o (pt t.val) (col t.val j) * firstMap p q f e w d o (pt t.val) (col t.val j)
      : ℝ) : EReal) :=
  squares_eq _ _ _ _ _ _ _ _ _ _ _ _ _ _ _ (loads V c A0 A1 A2 A3 A4 A5 e0 e1 e2 e3 e4 e5 p q f e w d H t) o

/-- The statistics after the points up to `n`: the sums over their blocks. -/
theorem stats (o : Fin 512) : ∀ (n : ℕ) (h : n < cfg0.N),
    (outsAt0 V c n h).2 (ix2 o 0)
      = ((∑ r ∈ Finset.range (n + 1), ∑ j : Fin 512, firstMap p q f e w d o (pt r) (col r j) : ℝ) : EReal)
    ∧ (outsAt0 V c n h).2 (ix2 o 1)
      = ((∑ r ∈ Finset.range (n + 1), ∑ j : Fin 512,
          firstMap p q f e w d o (pt r) (col r j) * firstMap p q f e w d o (pt r) (col r j) : ℝ) : EReal) := by
  intro n
  induction n with
  | zero =>
    intro h
    rw [show outsAt0 V c 0 h = _ from first V c ⟨0, h⟩ rfl]
    refine ⟨?_, ?_⟩
    · refine (pay1_left _ _ _ o).trans ?_
      rw [pay20_read, zero_add, block_sum V c A0 A1 A2 A3 A4 A5 e0 e1 e2 e3 e4 e5 p q f e w d H, Finset.sum_range_one]
    · refine (pay1_right _ _ _ o).trans ?_
      rw [pay20_read, zero_add, block_sq V c A0 A1 A2 A3 A4 A5 e0 e1 e2 e3 e4 e5 p q f e w d H, Finset.sum_range_one]
  | succ n ih =>
    intro h
    have hN : n + 1 < 128 := lt_of_lt_of_eq h (show cfg0.N = 128 from N_0)
    obtain ⟨iL, iR⟩ := ih (Nat.lt_of_succ_lt h)
    rw [show outsAt0 V c (n + 1) h = _ from later V c ⟨n + 1, h⟩ (by dsimp only; omega)]
    refine ⟨?_, ?_⟩
    · refine (pay1_left _ _ _ o).trans ?_
      rw [Finset.sum_range_succ _ (n + 1), EReal.coe_add, ← iL,
        block_sum V c A0 A1 A2 A3 A4 A5 e0 e1 e2 e3 e4 e5 p q f e w d H]
      rfl
    · refine (pay1_right _ _ _ o).trans ?_
      rw [Finset.sum_range_succ _ (n + 1), EReal.coe_add, ← iR,
        block_sq V c A0 A1 A2 A3 A4 A5 e0 e1 e2 e3 e4 e5 p q f e w d H]
      rfl

omit e0 e1 e2 e3 e4 e5 H in
/-- The first linear map's array, as a function of its index. -/
abbrev result : FVec Ideal S16x512x4096 .f32 := fun i => ((firstMap p q f e w d (i 1) (i 0) (i 2) : ℝ) : EReal)

/-- The first array after the run. -/
theorem final6 : (dat0 V c).arrAt 6 cfg0.N = result p q f e w d := by
  refine (dat0 V c).arrAt_eq_of_covers 6 _ (by decide +kernel) fun t _ x => ?_
  have he : ((cfg0.win 6).blk t).view.emb x = ix3 (pt t.val) (x 1) (col t.val (x 2)) := by
    blk_ext [idx t, pt, col]
  rw [he]
  have hx : x = ix3 0 (x 1) (x 2) := by blk_ext
  rw [hx]
  blk_simp
  rw [after0_6, stored_at V c t]
  exact block_eq V c A0 A1 A2 A3 A4 A5 e0 e1 e2 e3 e4 e5 p q f e w d H t (x 1) (x 2)

/-- The second array after the run: its first column holds each channel's sum, its second the sum of squares. -/
theorem final7 (o : Fin 512) (X : FVec Ideal S512x2 .f32) (hX : (dat0 V c).arrAt 7 cfg0.N = X) :
    X (ix2 o 0) = ((∑ b, ∑ t, firstMap p q f e w d o b t : ℝ) : EReal)
    ∧ X (ix2 o 1) = ((∑ b, ∑ t, firstMap p q f e w d o b t * firstMap p q f e w d o b t : ℝ) : EReal) := by
  obtain ⟨n, hn, h⟩ : ∃ n, n < cfg0.N ∧ n + 1 = 128 := ⟨127, lt_of_lt_of_eq (by decide) N_0.symm, rfl⟩
  obtain ⟨hl, hr⟩ := stats V c A0 A1 A2 A3 A4 A5 e0 e1 e2 e3 e4 e5 p q f e w d H o n hn
  rw [h] at hl hr
  rw [← hX, last V c n hn (by omega)]
  rw [sum_points fun b t => firstMap p q f e w d o b t] at hl
  rw [sum_points fun b t => firstMap p q f e w d o b t * firstMap p q f e w d o b t] at hr
  exact ⟨hl, hr⟩

end Cert.KernelIdeal.Region0

end
-- ==== Proof.Block1.lean ====
/-
  What one block of the second and of the third call computes from blocks that hold real numbers: the normalised channels,
  the second linear map over them, and the statistics it adds.
-/
module

public import proofs.«01_k».proof.Proof.Spec
public import proofs.«01_k».proof.Proof.Gen.KernelIdeal.Skeleton
public import Idealize.ShloMosaic.Lib.Pipeline.ValueKit

@[expose] public section

set_option maxRecDepth 16384

noncomputable section

open Idealize.ShloMosaic Idealize.ShloMosaic.TcCoe Idealize.SL.Sem

namespace Cert.KernelIdeal.Block1

open Cert.KernelIdeal Cert.KernelIdeal.Gen Cert.Spec

/-- The third call's block: each element normalised by its channel's statistics. -/
theorem k2_pay1_norm (v0 v4 v13 v16 : FVec Ideal S256x1 .f32) (v20 : FVec Ideal S1x256x512 .f32)
    (y : Fin 16 → Fin 4096 → ℝ) (g : ℝ) (s : EReal) (b : Fin 16) (t : Fin 4096) (o : Fin 256) (j : Fin 512)
    (h0 : v0 (ix2 o 0) = ((∑ b, ∑ t, y b t : ℝ) : EReal))
    (h4 : v4 (ix2 o 0) = ((∑ b, ∑ t, y b t * y b t : ℝ) : EReal))
    (h13 : v13 (ix2 o 0) = (g : EReal)) (h16 : v16 (ix2 o 0) = s) (h20 : v20 (ix3 0 o j) = ((y b t : ℝ) : EReal)) :
    k2_pay1 (F := Ideal) v0 v4 v13 v16 v20 (ix3 0 o j) = norm y g s b t := by
  pointwise [k2_pay1]
  rw [DropoutScale.ofBits_65536_f32, ofBits_eps, h20, h13, h16]
  exact norm_of_sums y g s b t _ _ h0 h4

/-- The second call's block: the second linear map over the normalised channels. -/
theorem k1_pay4_map (v0 v4 v13 v16 : FVec Ideal S512x1 .f32) (v20 : FVec Ideal S1x512x512 .f32)
    (v28 : FVec Ideal S256x512 .f32) (v30 : FVec Ideal S256x1 .f32)
    (y : Fin 512 → Fin 16 → Fin 4096 → ℝ) (g s : Fin 512 → ℝ) (w : Fin 256 → Fin 512 → ℝ) (e : Fin 256 → ℝ)
    (b : Fin 16) (t : Fin 4096) (o : Fin 256) (j : Fin 512)
    (h0 : ∀ k, v0 (ix2 k 0) = ((∑ b, ∑ t, y k b t : ℝ) : EReal))
    (h4 : ∀ k, v4 (ix2 k 0) = ((∑ b, ∑ t, y k b t * y k b t : ℝ) : EReal))
    (h13 : ∀ k, v13 (ix2 k 0) = ((g k : ℝ) : EReal)) (h16 : ∀ k, v16 (ix2 k 0) = ((s k : ℝ) : EReal))
    (h20 : ∀ k, v20 (ix3 0 k j) = ((y k b t : ℝ) : EReal))
    (h28 : ∀ o k, v28 (ix2 o k) = ((w o k : ℝ) : EReal)) (h30 : ∀ o, v30 (ix2 o 0) = ((e o : ℝ) : EReal)) :
    k1_pay4 (F := Ideal) v0 v4 v13 v16 v20 v28 v30 (ix2 o j)
      = ((∑ k, w o k * normR (y k) (g k) (s k) b t + e o : ℝ) : EReal) := by
  pointwise [k1_pay4]
  rw [DropoutScale.ofBits_65536_f32, ofBits_eps, EReal.coe_add, coe_sum, h30]
  congr 1
  refine Finset.sum_congr rfl fun k _ => ?_
  rw [h28, h20, h13, h16, norm_of_sums (y k) (g k) _ b t _ _ (h0 k) (h4 k), norm_coe, EReal.coe_mul]

/-- The block as it is stored. -/
theorem k1_pay1_read (v : FVec Ideal S256x512 .f32) (o : Fin 256) (j : Fin 512) :
    k1_pay1 (F := Ideal) v (ix3 0 o j) = v (ix2 o j) := by
  pointwise [k1_pay1]

/-- The statistics start at zero. -/
theorem k1_pay2_read (o : Fin 256) (a : Fin 2) : k1_pay2 (F := Ideal) (ix2 o a) = (0 : EReal) := by
  pointwise [k1_pay2]

/-- The first column of the statistics takes the block's row sums. -/
theorem k1_pay3_left (v : FVec Ideal S256x512 .f32) (a : FVec Ideal S256x2 .f32) (o : Fin 256) :
    k1_pay3 (F := Ideal) v a (ix2 o 0) = a (ix2 o 0) + ∑ j : Fin 512, v (ix2 o j) := by
  pointwise [k1_pay3]

/-- The second column takes the row sums of the squares. -/
theorem k1_pay3_right (v : FVec Ideal S256x512 .f32) (a : FVec Ideal S256x2 .f32) (o : Fin 256) :
    k1_pay3 (F := Ideal) v a (ix2 o 1) = a (ix2 o 1) + ∑ j : Fin 512, v (ix2 o j) * v (ix2 o j) := by
  pointwise [k1_pay3]

end Cert.KernelIdeal.Block1

end
-- ==== Proof.Region1.lean ====
/-
  What the second call's arrays hold: the second linear map over the normalised channels, and each of its channels' sum
  and sum of squares.
-/
module

public import proofs.«01_k».proof.Proof.Block1
public import proofs.«01_k».proof.Proof.Layer
public import proofs.«01_k».proof.Proof.Points
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.Spec Cert.Points Cert.KernelIdeal.Block1

/-- Where each window's block lies at every point. -/
theorem idx : ∀ t : Fin cfg1.N, win1_0.index t = ![t.val / 8 % 16, 0, t.val % 8] ∧ win1_1.index t = ![0, 0]
    ∧ win1_2.index t = ![0, 0] ∧ win1_3.index t = ![0, 0] ∧ win1_4.index t = ![0, 0] ∧ win1_5.index t = ![0, 0]
    ∧ win1_6.index t = ![t.val / 8 % 16, 0, t.val % 8] ∧ win1_7.index t = ![0, 0] :=
  (by decide +kernel : ∀ t : Fin grid1.N, _)

/-- The statistics' first column, as the body loads it. -/
theorem left (A : Vec Ideal S512x2 .f32) (inb) (o : Fin 512) :
    (View.ld A (Rect.unit (s := S512x2) ![0, 0] S512x1.size inb) : Vec Ideal S512x1 .f32) (ix2 o 0) = A (ix2 o 0) := by
  rw [View.ld_apply]
  congr 1
  funext a
  match a with
  | ⟨0, _⟩ => exact Fin.ext (by simp)
  | ⟨1, _⟩ => exact Fin.ext (by simp)

/-- The statistics' second column. -/
theorem right (A : Vec Ideal S512x2 .f32) (inb) (o : Fin 512) :
    (View.ld A (Rect.unit (s := S512x2) ![0, 1] S512x1.size inb) : Vec Ideal S512x1 .f32) (ix2 o 0) = A (ix2 o 1) := by
  rw [View.ld_apply]
  congr 1
  funext a
  match a with
  | ⟨0, _⟩ => exact Fin.ext (by simp)
  | ⟨1, _⟩ => exact Fin.ext (by simp)

variable (V : (c : Dev nD) → (b : Ref sig .tc) → Buf (Elt Ideal) ((c : Thread nD τ).loc b)) (c : Dev nD)
  (A0 : FVec Ideal S16x512x4096 .f32) (A1 : FVec Ideal S512x2 .f32) (A2 : FVec Ideal S256x512 .f32)
  (A3 : FVec Ideal S256x1 .f32) (A4 A5 : FVec Ideal S512x1 .f32)
  (e0 : V c (Pipeline.arrRef spec1 0) = A0) (e1 : V c (Pipeline.arrRef spec1 1) = A1)
  (e2 : V c (Pipeline.arrRef spec1 2) = A2) (e3 : V c (Pipeline.arrRef spec1 3) = A3)
  (e4 : V c (Pipeline.arrRef spec1 4) = A4) (e5 : V c (Pipeline.arrRef spec1 5) = A5)

include e0 in
/-- A point's block of the first map, read off the array. -/
theorem read0 (t : Fin cfg1.N) (o : Fin 512) (j : Fin 512) :
    iblk1 V c 0 t (ix3 0 o j) = A0 (ix3 (pt t.val) o (col t.val j)) := by
  unfold iblk1
  rw [e0]
  blk_ext [idx t, pt, col]

include e1 in
/-- Every point sees the whole statistics. -/
theorem read1 (t : Fin cfg1.N) : iblk1 V c 1 t = A1 := by
  unfold iblk1
  rw [e1]
  blk_ext! [idx t]

include e2 in
/-- Every point sees the whole weight matrix. -/
theorem read2 (t : Fin cfg1.N) : iblk1 V c 2 t = A2 := by
  unfold iblk1
  rw [e2]
  blk_ext! [idx t]

include e3 in
/-- Every point sees the whole bias. -/
theorem read3 (t : Fin cfg1.N) : iblk1 V c 3 t = A3 := by
  unfold iblk1
  rw [e3]
  blk_ext! [idx t]

include e4 in
/-- Every point sees all the factors. -/
theorem read4 (t : Fin cfg1.N) : iblk1 V c 4 t = A4 := by
  unfold iblk1
  rw [e4]
  blk_ext! [idx t]

include e5 in
/-- Every point sees all the shifts. -/
theorem read5 (t : Fin cfg1.N) : iblk1 V c 5 t = A5 := by
  unfold iblk1
  rw [e5]
  blk_ext! [idx t]

/-- The block of the linear map at a point, over the blocks the point reads. -/
abbrev block (t : Fin cfg1.N) : FVec Ideal S256x512 .f32 :=
  k1_pay4 (F := Ideal) (View.ld (iblk1 V c 1 t) (Rect.unit (s := S512x2) ![0, 0] S512x1.size inb_S512x2_S512x1_0_0))
    (View.ld (iblk1 V c 1 t) (Rect.unit (s := S512x2) ![0, 1] S512x1.size inb_S512x2_S512x1_0_1))
    (iblk1 V c 4 t) (iblk1 V c 5 t) (iblk1 V c 0 t) (iblk1 V c 2 t) (iblk1 V c 3 t)

/-- At the first point the statistics start from zero. -/
theorem first (t : Fin cfg1.N) (h : t.val % 128 = 0) : outsAt1 V c t.val t.isLt
    = (k1_pay1 (block V c t), k1_pay3 (block V c t) (k1_pay2 (F := Ideal))) := by
  rw [outsAt1_A V c t h]
  frame_out
  rfl

/-- At every other point the block's row sums are added to what the point before left. -/
theorem later (t : Fin cfg1.N) (h : ¬ t.val % 128 = 0) : outsAt1 V c t.val t.isLt
    = (k1_pay1 (block V c t), k1_pay3 (block V c t)
        (outsAt1 V c (t.val - 1) (Nat.lt_of_le_of_lt (Nat.sub_le _ _) t.isLt)).2) := by
  rw [outsAt1_B V c t h]
  frame_out
  rfl

/-- What the six arrays hold. -/
structure Holds (y : Fin 512 → Fin 16 → Fin 4096 → ℝ) (g s : Fin 512 → ℝ) (w : Fin 256 → Fin 512 → ℝ)
    (e : Fin 256 → ℝ) : Prop where
  h0 : ∀ b k t, A0 (ix3 b k t) = ((y k b t : ℝ) : EReal)
  hS : ∀ k, A1 (ix2 k 0) = ((∑ b, ∑ t, y k b t : ℝ) : EReal)
  hQ : ∀ k, A1 (ix2 k 1) = ((∑ b, ∑ t, y k b t * y k b t : ℝ) : EReal)
  h2 : ∀ o k, A2 (ix2 o k) = ((w o k : ℝ) : EReal)
  h3 : ∀ o, A3 (ix2 o 0) = ((e o : ℝ) : EReal)
  h4 : ∀ k, A4 (ix2 k 0) = ((g k : ℝ) : EReal)
  h5 : ∀ k, A5 (ix2 k 0) = ((s k : ℝ) : EReal)

variable (y : Fin 512 → Fin 16 → Fin 4096 → ℝ) (g s : Fin 512 → ℝ) (w : Fin 256 → Fin 512 → ℝ) (e : Fin 256 → ℝ)
  (H : Holds A0 A1 A2 A3 A4 A5 y g s w e)

include e0 e1 e2 e3 e4 e5 H

/-- The block at a point. -/
theorem block_eq (t : Fin cfg1.N) (o : Fin 256) (j : Fin 512) :
    block V c t (ix2 o j) = ((second y g s w e o (pt t.val) (col t.val j) : ℝ) : EReal) := by
  unfold block
  rw [read1 V c A1 e1 t, read2 V c A2 e2 t, read3 V c A3 e3 t, read4 V c A4 e4 t, read5 V c A5 e5 t]
  exact k1_pay4_map _ _ _ _ _ _ _ y g s w e (pt t.val) (col t.val j) o j (fun k => (left A1 _ k).trans (H.hS k))
    (fun k => (right A1 _ k).trans (H.hQ k)) H.h4 H.h5 (fun k => (read0 V c A0 e0 t k j).trans (H.h0 _ _ _)) H.h2 H.h3

/-- The block's row sums. -/
theorem block_sum (t : Fin cfg1.N) (o : Fin 256) : ∑ j : Fin 512, block V c t (ix2 o j)
    = ((∑ j : Fin 512, second y g s w e o (pt t.val) (col t.val j) : ℝ) : EReal) := by
  rw [coe_sum]
  exact Finset.sum_congr rfl fun j _ => block_eq V c A0 A1 A2 A3 A4 A5 e0 e1 e2 e3 e4 e5 y g s w e H t o j

/-- The row sums of the block's squares. -/
theorem block_sq (t : Fin cfg1.N) (o : Fin 256) : ∑ j : Fin 512, block V c t (ix2 o j) * block V c t (ix2 o j)
    = ((∑ j : Fin 512, second y g s w e o (pt t.val) (col t.val j) * second y g s w e o (pt t.val) (col t.val j) : ℝ)
      : EReal) := by
  rw [coe_sum]
  refine Finset.sum_congr rfl fun j _ => ?_
  rw [block_eq V c A0 A1 A2 A3 A4 A5 e0 e1 e2 e3 e4 e5 y g s w e H t o j, EReal.coe_mul]

/-- The statistics after the points up to `n`: the sums over their blocks. -/
theorem stats (o : Fin 256) : ∀ (n : ℕ) (h : n < cfg1.N),
    (outsAt1 V c n h).2 (ix2 o 0)
      = ((∑ r ∈ Finset.range (n + 1), ∑ j : Fin 512, second y g s w e o (pt r) (col r j) : ℝ) : EReal)
    ∧ (outsAt1 V c n h).2 (ix2 o 1)
      = ((∑ r ∈ Finset.range (n + 1), ∑ j : Fin 512,
          second y g s w e o (pt r) (col r j) * second y g s w e o (pt r) (col r j) : ℝ) : EReal) := by
  intro n
  induction n with
  | zero =>
    intro h
    rw [show outsAt1 V c 0 h = _ from first V c ⟨0, h⟩ rfl]
    refine ⟨?_, ?_⟩
    · refine (k1_pay3_left _ _ o).trans ?_
      rw [k1_pay2_read, zero_add, block_sum V c A0 A1 A2 A3 A4 A5 e0 e1 e2 e3 e4 e5 y g s w e H,
        Finset.sum_range_one]
    · refine (k1_pay3_right _ _ o).trans ?_
      rw [k1_pay2_read, zero_add, block_sq V c A0 A1 A2 A3 A4 A5 e0 e1 e2 e3 e4 e5 y g s w e H,
        Finset.sum_range_one]
  | succ n ih =>
    intro h
    have hN : n + 1 < 128 := lt_of_lt_of_eq h (show cfg1.N = 128 from N_1)
    obtain ⟨iL, iR⟩ := ih (Nat.lt_of_succ_lt h)
    rw [show outsAt1 V c (n + 1) h = _ from later V c ⟨n + 1, h⟩ (by dsimp only; omega)]
    refine ⟨?_, ?_⟩
    · refine (k1_pay3_left _ _ o).trans ?_
      rw [Finset.sum_range_succ _ (n + 1), EReal.coe_add, ← iL,
        block_sum V c A0 A1 A2 A3 A4 A5 e0 e1 e2 e3 e4 e5 y g s w e H]
      rfl
    · refine (k1_pay3_right _ _ o).trans ?_
      rw [Finset.sum_range_succ _ (n + 1), EReal.coe_add, ← iR,
        block_sq V c A0 A1 A2 A3 A4 A5 e0 e1 e2 e3 e4 e5 y g s w e H]
      rfl

omit e0 e1 e2 e3 e4 e5 H in
/-- Whatever the point, the stored block is the block. -/
theorem stored (t : Fin cfg1.N) : (outsAt1 V c t.val t.isLt).1 = k1_pay1 (block V c t) := by
  by_cases h : t.val % 128 = 0
  · rw [first V c t h]
  · rw [later V c t h]

/-- The second linear map's array, as a function of its index. -/
abbrev result : FVec Ideal S16x256x4096 .f32 := fun i => ((second y g s w e (i 1) (i 0) (i 2) : ℝ) : EReal)

/-- The first array after the run. -/
theorem final6 : (dat1 V c).arrAt 6 cfg1.N = result y g s w e := by
  refine (dat1 V c).arrAt_eq_of_covers 6 _ (by decide +kernel) fun t _ x => ?_
  have he : ((cfg1.win 6).blk t).view.emb x = ix3 (pt t.val) (x 1) (col t.val (x 2)) := by
    blk_ext [idx t, pt, col]
  rw [he]
  have hx : x = ix3 0 (x 1) (x 2) := by blk_ext
  rw [hx]
  blk_simp
  rw [after1_6, stored V c t]
  exact (k1_pay1_read _ (x 1) (x 2)).trans (block_eq V c A0 A1 A2 A3 A4 A5 e0 e1 e2 e3 e4 e5 y g s w e H t (x 1) (x 2))

end Cert.KernelIdeal.Region1

end
-- ==== Proof.Stats1.lean ====
/-
  What the second call's statistics array holds: each channel's sum and its sum of squares.
-/
module

public import proofs.«01_k».proof.Proof.Region1

@[expose] public section

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Cert.Spec Cert.Points Cert.KernelIdeal.Block1

variable (V : (c : Dev nD) → (b : Ref sig .tc) → Buf (Elt Ideal) ((c : Thread nD τ).loc b)) (c : Dev nD)

/-- The statistics array after the run is what the last point left. -/
theorem last (n : ℕ) (hn : n < cfg1.N) (h : n % 128 = 127) : (dat1 V c).arrAt 7 cfg1.N = (outsAt1 V c n hn).2 := by
  refine (dat1 V c).arrAt_eq_of_covers 7 _ (by decide +kernel) fun t hf x => ?_
  have ht : t = ⟨n, hn⟩ := by
    have h1 := (flush1_7 t).mp hf
    have h2 : t.val < 128 := lt_of_lt_of_eq t.isLt (show cfg1.N = 128 from N_1)
    have h3 : n < 128 := lt_of_lt_of_eq hn (show cfg1.N = 128 from N_1)
    exact Fin.ext (by show t.val = n; omega)
  subst ht
  have he : ((cfg1.win 7).blk ⟨n, hn⟩).view.emb x = x := by
    blk_ext [idx ⟨n, hn⟩]
  rw [he]
  blk_simp
  rw [after1_7]

variable
  (A0 : FVec Ideal S16x512x4096 .f32) (A1 : FVec Ideal S512x2 .f32) (A2 : FVec Ideal S256x512 .f32)
  (A3 : FVec Ideal S256x1 .f32) (A4 A5 : FVec Ideal S512x1 .f32)
  (e0 : V c (Pipeline.arrRef spec1 0) = A0) (e1 : V c (Pipeline.arrRef spec1 1) = A1)
  (e2 : V c (Pipeline.arrRef spec1 2) = A2) (e3 : V c (Pipeline.arrRef spec1 3) = A3)
  (e4 : V c (Pipeline.arrRef spec1 4) = A4) (e5 : V c (Pipeline.arrRef spec1 5) = A5)
  (y : Fin 512 → Fin 16 → Fin 4096 → ℝ) (g s : Fin 512 → ℝ) (w : Fin 256 → Fin 512 → ℝ) (e : Fin 256 → ℝ)
  (H : Holds A0 A1 A2 A3 A4 A5 y g s w e)

include e0 e1 e2 e3 e4 e5 H

/-- The second array after the run: its first column holds each channel's sum, its second the sum of squares. -/
theorem final7 (o : Fin 256) (X : FVec Ideal S256x2 .f32) (hX : (dat1 V c).arrAt 7 cfg1.N = X) :
    X (ix2 o 0) = ((∑ b, ∑ t, second y g s w e o b t : ℝ) : EReal)
    ∧ X (ix2 o 1) = ((∑ b, ∑ t, second y g s w e o b t * second y g s w e o b t : ℝ) : EReal) := by
  obtain ⟨n, hn, h⟩ : ∃ n, n < cfg1.N ∧ n + 1 = 128 := ⟨127, lt_of_lt_of_eq (by decide) N_1.symm, rfl⟩
  obtain ⟨hl, hr⟩ := stats V c A0 A1 A2 A3 A4 A5 e0 e1 e2 e3 e4 e5 y g s w e H o n hn
  rw [h] at hl hr
  rw [← hX, last V c n hn (by omega)]
  rw [sum_points fun b t => second y g s w e o b t] at hl
  rw [sum_points fun b t => second y g s w e o b t * second y g s w e o b t] at hr
  exact ⟨hl, hr⟩

end Cert.KernelIdeal.Region1

end
-- ==== Proof.Region2.lean ====
/-
  What the third call's array holds: the normalised channels.
-/
module

public import proofs.«01_k».proof.Proof.Block1
public import proofs.«01_k».proof.Proof.Points
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen Cert.Spec Cert.Points Cert.KernelIdeal.Block1

/-- Where each window's block lies at every point. -/
theorem idx : ∀ t : Fin cfg2.N, win2_0.index t = ![t.val / 8 % 16, 0, t.val % 8] ∧ win2_1.index t = ![0, 0]
    ∧ win2_2.index t = ![0, 0] ∧ win2_3.index t = ![0, 0] ∧ win2_4.index t = ![t.val / 8 % 16, 0, t.val % 8] :=
  (by decide +kernel : ∀ t : Fin grid2.N, _)

/-- The statistics' first column, as the body loads it. -/
theorem left (A : Vec Ideal S256x2 .f32) (o : Fin 256) : (View.ld A r2_0 : Vec Ideal S256x1 .f32) (ix2 o 0) = A (ix2 o 0) := by
  rw [View.ld_apply]
  congr 1
  funext a
  match a with
  | ⟨0, _⟩ => exact Fin.ext (by simp)
  | ⟨1, _⟩ => exact Fin.ext (by simp)

/-- The statistics' second column. -/
theorem right (A : Vec Ideal S256x2 .f32) (o : Fin 256) : (View.ld A r2_1 : Vec Ideal S256x1 .f32) (ix2 o 0) = A (ix2 o 1) := by
  rw [View.ld_apply]
  congr 1
  funext a
  match a with
  | ⟨0, _⟩ => exact Fin.ext (by simp)
  | ⟨1, _⟩ => exact Fin.ext (by simp)

variable (V : (c : Dev nD) → (b : Ref sig .tc) → Buf (Elt Ideal) ((c : Thread nD τ).loc b)) (c : Dev nD)
  (A0 : FVec Ideal S16x256x4096 .f32) (A1 : FVec Ideal S256x2 .f32) (A2 A3 : FVec Ideal S256x1 .f32)
  (e0 : V c (Pipeline.arrRef spec2 0) = A0) (e1 : V c (Pipeline.arrRef spec2 1) = A1)
  (e2 : V c (Pipeline.arrRef spec2 2) = A2) (e3 : V c (Pipeline.arrRef spec2 3) = A3)

include e0 in
/-- A point's block of the second map, read off the array. -/
theorem read0 (t : Fin cfg2.N) (o : Fin 256) (j : Fin 512) :
    iblk2 V c 0 t (ix3 0 o j) = A0 (ix3 (pt t.val) o (col t.val j)) := by
  unfold iblk2
  rw [e0]
  blk_ext [idx t, pt, col]

include e1 in
/-- Every point sees the whole statistics. -/
theorem read1 (t : Fin cfg2.N) : iblk2 V c 1 t = A1 := by
  unfold iblk2
  rw [e1]
  blk_ext! [idx t]

include e2 in
/-- Every point sees all the factors. -/
theorem read2 (t : Fin cfg2.N) : iblk2 V c 2 t = A2 := by
  unfold iblk2
  rw [e2]
  blk_ext! [idx t]

include e3 in
/-- Every point sees all the shifts. -/
theorem read3 (t : Fin cfg2.N) : iblk2 V c 3 t = A3 := by
  unfold iblk2
  rw [e3]
  blk_ext! [idx t]

/-- What the array holds, as a function of its index. -/
abbrev result (y : Fin 256 → Fin 16 → Fin 4096 → ℝ) (g : Fin 256 → ℝ) (s : Fin 256 → EReal) :
    FVec Ideal S16x256x4096 .f32 := fun i => norm (y (i 1)) (g (i 1)) (s (i 1)) (i 0) (i 2)

include e0 e1 e2 e3 in
/-- The array after the run. -/
theorem final (y : Fin 256 → Fin 16 → Fin 4096 → ℝ) (g : Fin 256 → ℝ) (s : Fin 256 → EReal)
    (h0 : ∀ b o t, A0 (ix3 b o t) = ((y o b t : ℝ) : EReal))
    (hS : ∀ o, A1 (ix2 o 0) = ((∑ b, ∑ t, y o b t : ℝ) : EReal))
    (hQ : ∀ o, A1 (ix2 o 1) = ((∑ b, ∑ t, y o b t * y o b t : ℝ) : EReal))
    (h2 : ∀ o, A2 (ix2 o 0) = ((g o : ℝ) : EReal)) (h3 : ∀ o, A3 (ix2 o 0) = s o) :
    (dat2 V c).arrAt 4 cfg2.N = result y g s := by
  refine (dat2 V c).arrAt_eq_of_covers 4 _ (by decide +kernel) fun t _ x => ?_
  have he : ((cfg2.win 4).blk t).view.emb x = ix3 (pt t.val) (x 1) (col t.val (x 2)) := by
    blk_ext [idx t, pt, col]
  rw [he]
  have hx : x = ix3 0 (x 1) (x 2) := by blk_ext
  rw [hx]
  blk_simp
  rw [after2_4]
  frame_out
  rw [read1 V c A1 e1 t, read2 V c A2 e2 t, read3 V c A3 e3 t]
  refine (k2_pay1_norm _ _ _ _ _ (y (x 1)) (g (x 1)) (s (x 1)) (pt t.val) (col t.val (x 2)) (x 1) (x 2)
    ((left A1 _).trans (hS _)) ((right A1 _).trans (hQ _)) (h2 _) (h3 _) ((read0 V c A0 e0 t _ _).trans (h0 _ _ _)))

end Cert.KernelIdeal.Region2

end
-- ==== Proof.Kernel.lean ====
/-
  The kernel's three calls in a row: the last boundary holds the answer.
-/
module

public import proofs.«01_k».proof.Proof.Inputs
public import proofs.«01_k».proof.Proof.Entry
public import proofs.«01_k».proof.Proof.Stats0
public import proofs.«01_k».proof.Proof.Stats1
public import proofs.«01_k».proof.Proof.Region2

@[expose] public section

set_option maxRecDepth 16384

noncomputable section

open Idealize.ShloMosaic Idealize.ShloMosaic.TcCoe Idealize.SL.Sem

namespace Cert.KernelIdeal.Answer

open Cert.KernelIdeal Cert.KernelIdeal.Gen Cert.Spec

variable (m : (ℓ : Loc nD τ sig) → Buf (Elt Ideal) ℓ) (ρ : Dev nD → PrngReg) (c : Dev nD)

/-- An argument at the second call's entry is the argument. -/
theorem arg2 (a : Ref sig .tc) (ha : a ∈ argRefs) : V2 m ρ c a = m ((c : Thread nD τ).loc a) := W2_args m ρ c a ha

variable (p : Fin 16 → Fin 3 → Fin 1024 → ℝ) (q : Fin 16 → Fin 3 → Fin 4096 → ℝ)
  (f : Fin 16 → Fin 512 → Fin 1024 → ℝ) (e : Fin 16 → Fin 256 → Fin 4096 → ℝ) (w : Fin 512 → Fin 768 → ℝ)
  (d g s : Fin 512 → ℝ) (v : Fin 256 → Fin 512 → ℝ) (k r : Fin 256 → ℝ)
  (H : Inputs.Holds (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) p q f e w d g s v k r)

include H

/-- What the first call finds in its arrays. -/
theorem holds0 : Region0.Holds (V1 m ρ c main_v0) (V1 m ρ c main_arg0) (V1 m ρ c main_arg2) (V1 m ρ c main_arg3)
    (V1 m ρ c main_arg4) (V1 m ρ c main_v1) p q f e w d where
  h0 b t a := (Entry.v0 m ρ c b t a).trans (H.h1 b a t)
  h1 b a n := (congrFun (Entry.arg m ρ c main_arg0 (by decide)) _).trans (H.h0 b a n)
  h2 b x n := (congrFun (Entry.arg m ρ c main_arg2 (by decide)) _).trans (H.h2 b x n)
  h3 b x t := (congrFun (Entry.arg m ρ c main_arg3 (by decide)) _).trans (H.h3 b x t)
  h4 o x := (congrFun (Entry.arg m ρ c main_arg4 (by decide)) _).trans (H.h4 o x)
  h5 o := (Entry.v1 m ρ c o).trans (H.h5 o)

/-- The first call's map, when the second call is entered. -/
theorem map1 : (V2 m ρ c main_v7_0 : FVec Ideal S16x512x4096 .f32) = Region0.result p q f e w d :=
  (W2_arr m ρ c 6).trans (Region0.final6 (V1 m ρ) c _ _ _ _ _ _ rfl rfl rfl rfl rfl rfl p q f e w d (holds0 m ρ c p q f e w d g s v k r H))

/-- The first call's sums, when the second call is entered. -/
theorem sums1 (o : Fin 512) : (V2 m ρ c main_v7_1 : FVec Ideal S512x2 .f32) (ix2 o 0) = ((∑ b, ∑ t, firstMap p q f e w d o b t : ℝ) : EReal)
    ∧ (V2 m ρ c main_v7_1 : FVec Ideal S512x2 .f32) (ix2 o 1)
      = ((∑ b, ∑ t, firstMap p q f e w d o b t * firstMap p q f e w d o b t : ℝ) : EReal) :=
  Region0.final7 (V1 m ρ) c _ _ _ _ _ _ rfl rfl rfl rfl rfl rfl p q f e w d (holds0 m ρ c p q f e w d g s v k r H) o _ (W2_arr m ρ c 7).symm

/-- What the second call finds in its arrays. -/
theorem holds1 : Region1.Holds (V2 m ρ c main_v7_0) (V2 m ρ c main_v7_1) (V2 m ρ c main_arg8) (V2 m ρ c main_v2)
    (V2 m ρ c main_v3) (V2 m ρ c main_v4) (firstMap p q f e w d) g s v k where
  h0 b o t := congrFun (map1 m ρ c p q f e w d g s v k r H) _
  hS o := (sums1 m ρ c p q f e w d g s v k r H o).1
  hQ o := (sums1 m ρ c p q f e w d g s v k r H o).2
  h2 o x := (congrFun (arg2 m ρ c main_arg8 (by decide)) _).trans (H.h8 o x)
  h3 o := (congrFun (W2_of m ρ c main_v2 (by decide)) _).trans ((Entry.v2 m ρ c o).trans (H.h9 o))
  h4 o := (congrFun (W2_of m ρ c main_v3 (by decide)) _).trans ((Entry.v3 m ρ c o).trans (H.h6 o))
  h5 o := (congrFun (W2_of m ρ c main_v4 (by decide)) _).trans ((Entry.v4 m ρ c o).trans (H.h7 o))

/-- The second call's map, when the third call is entered. -/
theorem map2 : (V3 m ρ c main_v8_0 : FVec Ideal S16x256x4096 .f32) = Region1.result (firstMap p q f e w d) g s v k :=
  (W3_arr m ρ c 6).trans (Region1.final6 (V2 m ρ) c _ _ _ _ _ _ rfl rfl rfl rfl rfl rfl _ g s v k (holds1 m ρ c p q f e w d g s v k r H))

/-- The second call's sums, when the third call is entered. -/
theorem sums2 (o : Fin 256) : (V3 m ρ c main_v8_1 : FVec Ideal S256x2 .f32) (ix2 o 0)
      = ((∑ b, ∑ t, second (firstMap p q f e w d) g s v k o b t : ℝ) : EReal)
    ∧ (V3 m ρ c main_v8_1 : FVec Ideal S256x2 .f32) (ix2 o 1)
      = ((∑ b, ∑ t, second (firstMap p q f e w d) g s v k o b t * second (firstMap p q f e w d) g s v k o b t : ℝ) : EReal) :=
  Region1.final7 (V2 m ρ) c _ _ _ _ _ _ rfl rfl rfl rfl rfl rfl _ g s v k (holds1 m ρ c p q f e w d g s v k r H) o _ (W3_arr m ρ c 7).symm

/-- The result array at the last boundary. -/
theorem result : (W4 m ρ c (Proc.devRef .tc main_v9) : FVec Ideal S16x256x4096 .f32)
    = Inputs.answer (m ((c : Thread nD τ).loc main_arg11)) p q f e w d g s v k r := by
  refine (W4_arr m ρ c 4).trans (Region2.final (V3 m ρ) c _ _ _ _ rfl rfl rfl rfl (second (firstMap p q f e w d) g s v k) r
    (fun o => (m ((c : Thread nD τ).loc main_arg11) : FVec Ideal S256 .f32) (ix1 o)) ?_ ?_ ?_ ?_ ?_)
  · exact fun b o t => congrFun (map2 m ρ c p q f e w d g s v k r H) _
  · exact fun o => (sums2 m ρ c p q f e w d g s v k r H o).1
  · exact fun o => (sums2 m ρ c p q f e w d g s v k r H o).2
  · exact fun o => (congrFun (W3_of m ρ c main_v5 (by decide)) _).trans ((congrFun (W2_of m ρ c main_v5 (by decide)) _).trans
      ((Entry.v5 m ρ c o).trans (H.h10 o)))
  · exact fun o => (congrFun (W3_of m ρ c main_v6 (by decide)) _).trans ((congrFun (W2_of m ρ c main_v6 (by decide)) _).trans
      (Entry.v6 m ρ c o))

end Cert.KernelIdeal.Answer

end
-- ==== Proof.RefNear.lean ====
/-
  Three operations of the reference read at an index: the three greatest entries of a row with their places, the features
  gathered at given places, and a sum over two axes.
-/
module

public import proofs.«01_k».proof.Proof.Nearest
public import proofs.«01_k».proof.Proof.Gen.ReferenceIdeal.Read
public import Idealize.ShloMosaic.Lib.Pipeline.ValueKit

@[expose] public section

set_option maxRecDepth 16384

noncomputable section

open Idealize.ShloMosaic Idealize.ShloMosaic.TcCoe Idealize.SL.Sem

namespace Cert.ReferenceIdeal.Near

open Cert.ReferenceIdeal Cert.ReferenceIdeal.Gen Cert.Nearest

/-- The three greatest entries of a row of negated numbers are the negated three least. -/
theorem topk_read (x : FVec Ideal S16x4096x1024 .f32) (D : Fin 1024 → EReal) (b : Fin 16) (t : Fin 4096)
    (hx : ∀ n, x (ix3 b t n) = -D n) (hD : ∀ n, D n ≠ ⊤) (k : Fin 3) :
    (Host.topK S16x4096x3 2 (FloatOps.cmpfTotal .gt) x sliceFits_S16x4096x1024_S16x4096x3).1 (ix3 b t k)
        = -D (near D k)
    ∧ (Host.topK S16x4096x3 2 (FloatOps.cmpfTotal .gt) x sliceFits_S16x4096x1024_S16x4096x3).2 (ix3 b t k)
        = BitVec.ofNat 32 (near D k).val := by
  have hal : ∀ (j : S16x4096x1024.Idx) (n : Fin 1024), j 0 = b → j 1 = t → j.along (2 : Fin 3) n = ix3 b t n := by
    intro j n h0 h1
    funext a
    match a with
    | ⟨0, _⟩ => exact h0
    | ⟨1, _⟩ => exact h1
    | ⟨2, _⟩ => rfl
  have hcmp : ∀ p q : EReal, ((FloatOps.cmpfTotal (F := Ideal) (φ := .f32) .gt (-p) (-q) : BitVec 1) == 1#1)
      = decide (p < q) := by
    intro p q
    show (BitVec.ofBool (decide (-q < -p)) == 1#1) = decide (p < q)
    rw [show decide (-q < -p) = decide (p < q) from decide_eq_decide.mpr EReal.neg_lt_neg_iff]
    cases decide (p < q) <;> rfl
  have hsort : ∀ (j : S16x4096x1024.Idx), j 0 = b → j 1 = t → j 2 = k.castLE (by decide) →
      sortedFrom (fun k k' : Fin 1024 =>
        ((FloatOps.cmpfTotal (F := Ideal) (φ := .f32) .gt (x (j.along (2 : Fin 3) k)) (x (j.along (2 : Fin 3) k')) : BitVec 1)
          == 1#1)) (j 2) = near D k := by
    intro j h0 h1 h2
    rw [h2]
    refine Eq.trans ?_ (sortedFrom_near (by decide) D hD k)
    congr 1
    funext p q
    rw [hal j p h0 h1, hal j q h0 h1, hx, hx]
    exact hcmp _ _
  have hslice : ∀ {α : Type} (y : S16x4096x1024.Idx → α) (h : S16x4096x1024.Slices (fun _ => 0) S16x4096x3),
      extractStridedSlice S16x4096x3 (fun _ => 0) y h (ix3 b t k) = y (ix3 b t (k.castLE (by decide))) := by
    intro α y h
    unfold extractStridedSlice
    congr 1
    funext a
    match a with
    | ⟨0, _⟩ => exact Fin.ext (Nat.zero_add _)
    | ⟨1, _⟩ => exact Fin.ext (Nat.zero_add _)
    | ⟨2, _⟩ => exact Fin.ext (Nat.zero_add _)
  have hs := hsort (ix3 b t (k.castLE (by decide))) rfl rfl rfl
  have hsnd : ∀ (y : S16x4096x1024.Idx → BitVec 32) (j : S16x4096x1024.Idx),
      (Host.sort2 S16x4096x1024 2 (fun l r => FloatOps.cmpfTotal (F := Ideal) (φ := .f32) .gt l.1 r.1) x y).2 j
        = y (j.along (2 : Fin 3) (sortedFrom (fun k k' : Fin 1024 =>
        ((FloatOps.cmpfTotal (F := Ideal) (φ := .f32) .gt (x (j.along (2 : Fin 3) k)) (x (j.along (2 : Fin 3) k')) : BitVec 1)
          == 1#1)) (j 2))) := by
    intro y j
    rfl
  constructor
  · unfold Host.topK
    dsimp only
    refine (hslice _ _).trans ?_
    show x ((ix3 b t (k.castLE (by decide)) : S16x4096x1024.Idx).along (2 : Fin 3) _) = _
    refine Eq.trans (congrArg x ((congrArg _ hs).trans (hal _ _ rfl rfl))) (hx _)
  · unfold Host.topK
    dsimp only
    refine (hslice _ _).trans ?_
    have h2 : ∀ y : S16x4096x1024.Idx → BitVec 32,
        (Host.sort2 S16x4096x1024 2 (fun l r => FloatOps.cmpfTotal (F := Ideal) (φ := .f32) .gt l.1 r.1) x y).2
          (ix3 b t (k.castLE (by decide))) = y (ix3 b t (near D k)) :=
      fun y => (hsnd y _).trans (congrArg y ((congrArg _ hs).trans (hal _ _ rfl rfl)))
    refine (h2 _).trans ?_
    generalize near D k = n
    rfl

/-- The gather at a place: the features there. -/
theorem gather_read (x : FVec Ideal S16x512x1024 .f32) (idx : IVec S16x4096x3x1 32) (b : Fin 16) (o : Fin 512)
    (t : Fin 4096) (k : Fin 3) (n : Fin 1024) (h : idx (ix4 b t k 0) = BitVec.ofNat 32 n.val) :
    Host.gather gather_S16x512x1024_S16x4096x3x1_S16x512x4096x3_1_2_0_0_2_3_15121 x idx (ix4 b o t k)
      = x (ix3 b o n) := by
  unfold Host.gather
  congr 1
  funext a
  unfold GatherDims.operandIdx
  let G := gather_S16x512x1024_S16x4096x3x1_S16x512x4096x3_1_2_0_0_2_3_15121
  let J : S16x512x4096x3.Idx := ix4 b o t k
  match a with
  | ⟨0, _⟩ =>
    apply Fin.ext
    show GatherDims.start G J idx (0 : Fin 3) + GatherDims.batchCoord G J (0 : Fin 3) + GatherDims.offCoord G J (0 : Fin 3)
      = b.val
    rw [GatherDims.start_batching _ _ _ _ (by decide), GatherDims.offCoord_eq_zero _ _ _ (by decide)]
    unfold GatherDims.batchCoord
    rw [dif_pos (by decide)]
    simp
    rfl
  | ⟨1, _⟩ =>
    apply Fin.ext
    show GatherDims.start G J idx (1 : Fin 3) + GatherDims.batchCoord G J (1 : Fin 3) + GatherDims.offCoord G J (1 : Fin 3)
      = o.val
    unfold GatherDims.start
    rw [dif_neg (by decide), GatherDims.batchCoord_eq_zero _ _ _ (by decide)]
    unfold GatherDims.offCoord
    rw [dif_pos (by decide)]
    simp
    rfl
  | ⟨2, _⟩ =>
    apply Fin.ext
    show GatherDims.start G J idx (2 : Fin 3) + GatherDims.batchCoord G J (2 : Fin 3) + GatherDims.offCoord G J (2 : Fin 3)
      = n.val
    rw [GatherDims.batchCoord_eq_zero _ _ _ (by decide), GatherDims.offCoord_eq_zero _ _ _ (by decide)]
    unfold GatherDims.start
    rw [dif_pos (by decide)]
    have hs : ∀ z, GatherDims.siIdx gather_S16x512x1024_S16x4096x3x1_S16x512x4096x3_1_2_0_0_2_3_15121 (ix4 b o t k) z
        = ix4 b t k 0 := by
      intro z
      funext a
      match a with
      | ⟨0, _⟩ => rfl
      | ⟨1, _⟩ => rfl
      | ⟨2, _⟩ => rfl
      | ⟨3, _⟩ => exact Subsingleton.elim (α := Fin 1) _ _
    rw [hs, h, toInt_word n.isLt.le]
    show min (n.val : Int).toNat (1024 - 1) + 0 + 0 = n.val
    have := n.isLt
    omega

/-- A sum over the first and the last of three axes. -/
theorem sum_two {B N T : ℕ} (h : (⟨3, ![B, N, T]⟩ : Shape).ReducesTo [0, 2] ⟨1, ![N]⟩)
    (x : (⟨3, ![B, N, T]⟩ : Shape).Idx → EReal) (init : EReal) (o : Fin N) :
    Ideal.hostReduceAdd h x init (ix1 o) = init + ∑ b, ∑ t, x (ix3 b o t) := by
  unfold Ideal.hostReduceAdd
  congr 1
  rw [← Finset.sum_product']
  refine Finset.sum_nbij' (fun i => (i 0, i 2)) (fun p => ix3 p.1 o p.2) ?_ ?_ ?_ ?_ ?_
  · intro i _
    simp
  · intro p _
    rw [Finset.mem_filter]
    refine ⟨Finset.mem_univ _, ?_⟩
    funext a
    match a with
    | ⟨0, _⟩ => rfl
  · intro i hi
    have h1 : i 1 = o := congrFun (Finset.mem_filter.mp hi).2 0
    rw [← h1]
    exact (eq_ix3 i).symm
  · intro p _
    rfl
  · intro i hi
    have h1 : i 1 = o := congrFun (Finset.mem_filter.mp hi).2 0
    rw [← h1]
    exact congrArg x (eq_ix3 i)

end Cert.ReferenceIdeal.Near

end
-- ==== Proof.RefFirst.lean ====
/-
  The reference's first map read at an index: the squared distances, the three nearest reference points and their
  weights, the interpolated features, and the linear map over them and the point's own features.
-/
module

public import proofs.«01_k».proof.Proof.RefNear
public import proofs.«01_k».proof.Proof.Layer

@[expose] public section

set_option maxRecDepth 16384

noncomputable section

open Idealize.ShloMosaic Idealize.ShloMosaic.TcCoe Idealize.SL.Sem

namespace Cert.ReferenceIdeal.First

open Cert.ReferenceIdeal Cert.ReferenceIdeal.Gen Cert.ReferenceIdeal.Read Cert.Spec Cert.ReferenceIdeal.Near

variable (x0 : (⟨S16x3x1024, .f32⟩ : BufTy).Contents (Elt Ideal)) (x1 : (⟨S16x3x4096, .f32⟩ : BufTy).Contents (Elt Ideal))
  (x2 : (⟨S16x512x1024, .f32⟩ : BufTy).Contents (Elt Ideal)) (x3 : (⟨S16x256x4096, .f32⟩ : BufTy).Contents (Elt Ideal))
  (x4 : (⟨S512x768, .f32⟩ : BufTy).Contents (Elt Ideal)) (x5 : (⟨S512, .f32⟩ : BufTy).Contents (Elt Ideal))
  (p : Fin 16 → Fin 3 → Fin 1024 → ℝ) (q : Fin 16 → Fin 3 → Fin 4096 → ℝ) (f : Fin 16 → Fin 512 → Fin 1024 → ℝ)
  (e : Fin 16 → Fin 256 → Fin 4096 → ℝ) (w : Fin 512 → Fin 768 → ℝ) (d : Fin 512 → ℝ)
  (h0 : ∀ b a n, x0 (ix3 b a n) = ((p b a n : ℝ) : EReal)) (h1 : ∀ b a t, x1 (ix3 b a t) = ((q b a t : ℝ) : EReal))
  (h2 : ∀ b o n, x2 (ix3 b o n) = ((f b o n : ℝ) : EReal)) (h3 : ∀ b o t, x3 (ix3 b o t) = ((e b o t : ℝ) : EReal))
  (h4 : ∀ o k, x4 (ix2 o k) = ((w o k : ℝ) : EReal)) (h5 : ∀ o, x5 (ix1 o) = ((d o : ℝ) : EReal))

/-- The query point `t` of batch `b`. -/
abbrev at_ (q : Fin 16 → Fin 3 → Fin 4096 → ℝ) (b : Fin 16) (t : Fin 4096) : Fin 3 → ℝ := fun a => q b a t

include h0 h1 in
/-- A coordinate's difference. -/
theorem diff (b : Fin 16) (t : Fin 4096) (n : Fin 1024) (k : Fin 3) :
    val_main_v6 (F := Ideal) x0 x1 (ix4 b t n k) = ((q b k t - p b k n : ℝ) : EReal) := by
  rw [val_main_v6_apply, val_main_v4_apply, val_main_v2_apply, val_main_v0_apply, val_main_v5_apply, val_main_v3_apply,
    val_main_v1_apply, EReal.coe_sub, ← h1 b k t, ← h0 b k n]
  exact congrArg₂ (fun a b : EReal => a - b) (congrArg x1 (eq_ix3 _)) (congrArg x0 (eq_ix3 _))

include h0 h1 in
/-- The squared distances. -/
theorem dist (b : Fin 16) (t : Fin 4096) (n : Fin 1024) :
    val_main_v8 (F := Ideal) x0 x1 (ix3 b t n) = row (at_ q b t) (p b) n := by
  rw [val_main_v8_apply]
  unfold row dist2
  rw [coe_sum]
  refine (congrArg₂ (fun a b : EReal => a + b) Ideal.ofBits_zero_f32
    (Finset.sum_congr rfl fun k _ => ?_)).trans (zero_add _)
  have hk : idx_main_v8 (ix3 b t n) k = ix4 b t n k := eq_ix4 _
  rw [hk, val_main_v7_apply, diff x0 x1 p q h0 h1, EReal.coe_mul]
  rfl

include h0 h1 in
/-- The three greatest negated distances. -/
theorem greatest (b : Fin 16) (t : Fin 4096) (k : Fin 3) :
    val_main_values (F := Ideal) x0 x1 (ix3 b t k) = -(row (at_ q b t) (p b) (place (at_ q b t) (p b) k))
    ∧ val_main_indices (F := Ideal) x0 x1 (ix3 b t k) = BitVec.ofNat 32 (place (at_ q b t) (p b) k).val :=
  topk_read (val_main_v9 (F := Ideal) x0 x1) (row (at_ q b t) (p b)) b t
    (fun n => congrArg (fun a : EReal => -a) (dist x0 x1 p q h0 h1 b t n)) (fun _ => EReal.coe_ne_top _) k

include h0 h1 in
/-- The nearest distance's square root, squared. -/
theorem squared (b : Fin 16) (t : Fin 4096) (k : Fin 3) :
    val_main_v14 (F := Ideal) x0 x1 (ix3 b t k)
      = ((dist2 (at_ q b t) (p b) (place (at_ q b t) (p b) k) : ℝ) : EReal) := by
  have hn := dist2_nonneg (at_ q b t) (p b) (place (at_ q b t) (p b) k)
  have h12 : val_main_v12 (F := Ideal) x0 x1 (ix3 b t k)
      = ((dist2 (at_ q b t) (p b) (place (at_ q b t) (p b) k) : ℝ) : EReal) := by
    rw [val_main_v12_apply, val_main_v10_apply, (greatest x0 x1 p q h0 h1 b t k).1, val_main_v11_apply]
    refine (congrArg₂ (fun a b : EReal => max a b) (neg_neg _) Ideal.ofBits_zero_f32).trans ?_
    unfold row
    rw [← EReal.coe_zero, ← coe_max, max_eq_left hn]
  have h13 : val_main_v13 (F := Ideal) x0 x1 (ix3 b t k)
      = ((Real.sqrt (dist2 (at_ q b t) (p b) (place (at_ q b t) (p b) k)) : ℝ) : EReal) := by
    rw [val_main_v13_apply, h12]
    exact sqrt_coe _ hn
  rw [val_main_v14_apply, h13]
  show ((_ : ℝ) : EReal) * ((_ : ℝ) : EReal) = _
  rw [← EReal.coe_mul, Real.mul_self_sqrt hn]

include h0 h1 in
/-- The inverse distances. -/
theorem inverse (b : Fin 16) (t : Fin 4096) (k : Fin 3) :
    val_main_v19 (F := Ideal) x0 x1 (ix3 b t k) = ((inv (at_ q b t) (p b) k : ℝ) : EReal) := by
  have h17 : val_main_v17 (F := Ideal) x0 x1 (ix3 b t k)
      = max (row (at_ q b t) (p b) (place (at_ q b t) (p b) k)) (Ideal.ofBits .f32 0x2EDBE6FF#32) := by
    rw [val_main_v17_apply, val_main_v16_apply, squared x0 x1 p q h0 h1, val_main_v15_apply, val_main_call0_v1_apply]
    show (if (BitVec.ofBool (decide (row (at_ q b t) (p b) (place (at_ q b t) (p b) k)
      < Ideal.ofBits .f32 0x2EDBE6FF#32))) = 1#1 then Ideal.ofBits .f32 0x2EDBE6FF#32 else
        row (at_ q b t) (p b) (place (at_ q b t) (p b) k)) = _
    by_cases hlt : row (at_ q b t) (p b) (place (at_ q b t) (p b) k) < Ideal.ofBits .f32 0x2EDBE6FF#32
    · rw [max_eq_right hlt.le, decide_eq_true hlt]; rfl
    · rw [max_eq_left (not_lt.mp hlt), decide_eq_false hlt]; rfl
  rw [val_main_v19_apply, h17, val_main_v18_apply, ← inv_ideal]
  exact congrArg (fun a : EReal => Ideal.div a _) Ideal.ofBits_one_f32

include h0 h1 in
/-- The weights. -/
theorem weights (b : Fin 16) (t : Fin 4096) (k : Fin 3) :
    val_main_v23 (F := Ideal) x0 x1 (ix3 b t k) = ((weight (at_ q b t) (p b) k : ℝ) : EReal) := by
  have h20 : val_main_v20 (F := Ideal) x0 x1 (ix2 b t) = ((∑ k, inv (at_ q b t) (p b) k : ℝ) : EReal) := by
    rw [val_main_v20_apply, coe_sum]
    refine (congrArg₂ (fun a b : EReal => a + b) Ideal.ofBits_zero_f32
      (Finset.sum_congr rfl fun k _ => ?_)).trans (zero_add _)
    have hk : idx_main_v20 (ix2 b t) k = ix3 b t k := eq_ix3 _
    rw [hk]
    exact inverse x0 x1 p q h0 h1 b t k
  have h22 : val_main_v22 (F := Ideal) x0 x1 (ix3 b t k) = ((∑ k, inv (at_ q b t) (p b) k : ℝ) : EReal) := by
    rw [val_main_v22_apply, val_main_v21_apply, ← h20]
    exact congrArg (val_main_v20 (F := Ideal) x0 x1) (eq_ix2 _)
  rw [val_main_v23_apply, inverse x0 x1 p q h0 h1, h22]
  exact div_coe' _ _ (sum_inv_pos _ _).ne'

include h0 h1 in
/-- The places the features are gathered from. -/
theorem places (b : Fin 16) (t : Fin 4096) (k : Fin 3) :
    val_main_v29 (F := Ideal) x0 x1 (ix4 b t k 0) = BitVec.ofNat 32 (place (at_ q b t) (p b) k).val := by
  have hi := (greatest x0 x1 p q h0 h1 b t k).2
  have hk : idx_main_v29 (ix4 b t k 0) = ix3 b t k := eq_ix3 _
  rw [val_main_v29_apply, hk, val_main_v28_apply, val_main_v25_apply, hi, val_main_v24_apply]
  generalize place (at_ q b t) (p b) k = n
  have hs : IntOp.cmpi .slt (BitVec.ofNat 32 n.val) (val_main_c (F := Ideal) (idx_main_v24 (ix3 b t k))) = 0#1 := by
    show BitVec.ofBool ((BitVec.ofNat 32 n.val).slt 0#32) = 0#1
    rw [BitVec.slt_eq_decide, Cert.Nearest.toInt_word n.isLt.le]
    exact congrArg BitVec.ofBool (decide_eq_false (not_lt.mpr (Int.natCast_nonneg _)))
  rw [hs]
  rfl

include h0 h1 h2 in
/-- The interpolated features. -/
theorem interpolated (b : Fin 16) (o : Fin 512) (t : Fin 4096) :
    val_main_v34 (F := Ideal) x0 x1 x2 (ix3 b o t) = ((Spec.interp (at_ q b t) (p b) (f b o) : ℝ) : EReal) := by
  rw [val_main_v34_apply]
  unfold Spec.interp
  rw [coe_sum]
  refine (congrArg₂ (fun a b : EReal => a + b) Ideal.ofBits_zero_f32
    (Finset.sum_congr rfl fun k _ => ?_)).trans (zero_add _)
  have hk : idx_main_v34 (ix3 b o t) k = ix4 b o t k := eq_ix4 _
  have h30 : val_main_v30 (F := Ideal) x0 x1 x2 (ix4 b o t k) = x2 (ix3 b o (place (at_ q b t) (p b) k)) :=
    gather_read x2 (val_main_v29 (F := Ideal) x0 x1) b o t k _ (places x0 x1 p q h0 h1 b t k)
  have h32 : val_main_v32 (F := Ideal) x0 x1 (ix4 b o t k) = ((weight (at_ q b t) (p b) k : ℝ) : EReal) := by
    rw [val_main_v32_apply, val_main_v31_apply, ← weights x0 x1 p q h0 h1]
    exact congrArg (val_main_v23 (F := Ideal) x0 x1) (eq_ix3 _)
  rw [hk, val_main_v33_apply, h30, h32, h2, EReal.coe_mul]
  rfl

include h0 h1 h2 in
/-- The first 512 channels of the joined features are the interpolated ones. -/
theorem joined_left (b : Fin 16) (o : Fin 512) (t : Fin 4096) :
    val_main_v35 (F := Ideal) x0 x1 x2 x3 (ix3 b (Fin.castAdd 256 o : Fin (512 + 256)) t)
      = ((Spec.interp (at_ q b t) (p b) (f b o) : ℝ) : EReal) := by
  rw [← interpolated x0 x1 x2 p q f h0 h1 h2]
  unfold val_main_v35
  exact concatenate_pair_apply_left (t := S16x768x4096) (s₁ := S16x512x4096) (s₂ := S16x256x4096) 1 _ _ _
    (ix3 b (Fin.castAdd 256 o : Fin (512 + 256)) t) rfl (ix3 b o t)
    (fun a => match a with | ⟨0, _⟩ => rfl | ⟨1, _⟩ => rfl | ⟨2, _⟩ => rfl)

include h3 in
/-- The last 256 are the point's own. -/
theorem joined_right (b : Fin 16) (o : Fin 256) (t : Fin 4096) :
    val_main_v35 (F := Ideal) x0 x1 x2 x3 (ix3 b (Fin.natAdd 512 o : Fin (512 + 256)) t) = ((e b o t : ℝ) : EReal) := by
  rw [← h3]
  unfold val_main_v35
  exact concatenate_pair_apply_right (t := S16x768x4096) (s₁ := S16x512x4096) (s₂ := S16x256x4096) 1 _ _ _
    (ix3 b (Fin.natAdd 512 o : Fin (512 + 256)) t) rfl rfl (ix3 b o t)
    (fun a h => match a with | ⟨0, _⟩ => rfl | ⟨1, _⟩ => absurd rfl h | ⟨2, _⟩ => rfl) (Nat.add_comm _ _)

include h0 h1 h2 h3 h4 h5 in
/-- The first map. -/
theorem first (b : Fin 16) (o : Fin 512) (t : Fin 4096) :
    val_main_v40 (F := Ideal) x0 x1 x2 x3 x4 x5 (ix3 b o t) = ((firstMap p q f e w d o b t : ℝ) : EReal) := by
  have h39 : val_main_v39 (F := Ideal) x5 (ix3 b o t) = ((d o : ℝ) : EReal) := by
    rw [val_main_v39_apply, val_main_v38_apply, ← h5]
    exact congrArg x5 (eq_ix1 _)
  have h36 : val_main_v36 (F := Ideal) x0 x1 x2 x3 x4 (ix3 b t o)
      = ((∑ x : Fin 512, w o (x.castLE (by decide)) * Spec.interp (at_ q b t) (p b) (f b x)
        + ∑ x : Fin 256, w o (Fin.natAdd 512 x) * e b x t : ℝ) : EReal) := by
    rw [val_main_v36_apply]
    have hl : ∀ k, lidx_main_v36 (ix3 b t o) k = ix3 b k t := fun k => eq_ix3 _
    have hr : ∀ k, ridx_main_v36 (ix3 b t o) k = ix2 o k := fun k => eq_ix2 _
    simp only [hl, hr, h4]
    refine (Fin.sum_univ_add (a := 512) (b := 256) (fun k => val_main_v35 (F := Ideal) x0 x1 x2 x3 (ix3 b k t)
      * ((w o k : ℝ) : EReal))).trans ?_
    rw [EReal.coe_add, coe_sum, coe_sum]
    refine congrArg₂ (fun a b : EReal => a + b) (Finset.sum_congr rfl fun k _ => ?_) (Finset.sum_congr rfl fun k _ => ?_)
    · rw [joined_left x0 x1 x2 x3 p q f h0 h1 h2, ← EReal.coe_mul, mul_comm]
      rfl
    · rw [joined_right x0 x1 x2 x3 e h3, ← EReal.coe_mul, mul_comm]
  have h37 : val_main_v37 (F := Ideal) x0 x1 x2 x3 x4 (ix3 b o t) = _ :=
    (val_main_v37_apply x0 x1 x2 x3 x4 _).trans ((congrArg (val_main_v36 (F := Ideal) x0 x1 x2 x3 x4) (eq_ix3 _)).trans h36)
  rw [val_main_v40_apply, h37, h39]
  unfold firstMap mix
  rw [EReal.coe_add]
  rfl

end Cert.ReferenceIdeal.First

end
-- ==== Proof.RefNorm.lean ====
/-
  The reference's normalisation of a channel, its arithmetic alone: the mean, the variance as the mean of the squared
  deviations, and the channel scaled, shifted and cut off.
-/
module

public import proofs.«01_k».proof.Proof.RefNear
public import proofs.«01_k».proof.Proof.Layer

@[expose] public section

set_option maxRecDepth 16384

noncomputable section

open Idealize.ShloMosaic Idealize.ShloMosaic.TcCoe Idealize.SL.Sem

namespace Cert.ReferenceIdeal.Norm

open Cert.ReferenceIdeal Cert.ReferenceIdeal.Gen Cert.Spec Cert.ReferenceIdeal.Near

/-- The sum of a channel whose entries are real, from the literal zero. -/
theorem channel_sum {N : ℕ} (x : FVec Ideal ⟨3, ![16, N, 4096]⟩ .f32) (y : Fin 16 → Fin 4096 → ℝ) (c : FVec Ideal S_ .f32)
    (h : (⟨3, ![16, N, 4096]⟩ : Shape).ReducesTo [0, 2] ⟨1, ![N]⟩) (hu : 0 < S_.numel) (o : Fin N)
    (hc : c = constant S_ .f32 0x00000000#32) (hx : ∀ b t, x (ix3 b o t) = ((y b t : ℝ) : EReal)) :
    Host.reduceAdd x c h hu (ix1 o) = ((∑ b, ∑ t, y b t : ℝ) : EReal) := by
  refine (sum_two h x (c (Shape.Idx.first hu)) o).trans ?_
  simp only [hx, ← coe_sum]
  rw [hc]
  exact (congrArg (fun a : EReal => a + _) Ideal.ofBits_zero_f32).trans (zero_add _)

/-- The mean. -/
theorem mean_read (y : Fin 16 → Fin 4096 → ℝ) :
    Ideal.div ((∑ b, ∑ t, y b t : ℝ) : EReal) (Ideal.ofBits .f32 0x47800000#32) = ((mean y : ℝ) : EReal) := by
  rw [DropoutScale.ofBits_65536_f32, div_coe' _ _ (by norm_num)]
  rfl

/-- The number the squared deviations are divided by: the count less zero. -/
theorem count : Ideal.ofBits .f32 0x47800000#32 - (((0#32 : BitVec 32).toInt : ℝ) : EReal) = ((65536 : ℝ) : EReal) := by
  rw [DropoutScale.ofBits_65536_f32, ← EReal.coe_sub]
  congr 1
  simp

/-- The variance. -/
theorem var_read (y : Fin 16 → Fin 4096 → ℝ) :
    Ideal.div ((∑ b, ∑ t, (y b t - mean y) * (y b t - mean y) : ℝ) : EReal)
      (Ideal.ofBits .f32 0x47800000#32 - (((0#32 : BitVec 32).toInt : ℝ) : EReal)) = ((var y : ℝ) : EReal) := by
  rw [count, div_coe' _ _ (by norm_num)]
  rfl

/-- The count is positive, so the variance is what is selected. -/
theorem count_pos : Ideal.cmp .ogt (Ideal.ofBits .f32 0x47800000#32 - (((0#32 : BitVec 32).toInt : ℝ) : EReal))
    (Ideal.ofBits .f32 0x00000000#32) = 1#1 := by
  rw [count, Ideal.ofBits_zero_f32]
  show BitVec.ofBool (decide ((0 : EReal) < ((65536 : ℝ) : EReal))) = 1#1
  rw [decide_eq_true (EReal.coe_pos.mpr (by norm_num))]
  rfl

/-- The standard deviation. -/
theorem deviation_read (y : Fin 16 → Fin 4096 → ℝ) :
    Ideal.sqrt (((var y : ℝ) : EReal) + Ideal.ofBits .f32 0x3A83126F#32) = ((Real.sqrt (var y + eps) : ℝ) : EReal) := by
  rw [ofBits_eps, ← EReal.coe_add, sqrt_coe _ (var_eps_pos y).le]

/-- The channel scaled, shifted and cut off. -/
theorem norm_read (y : Fin 16 → Fin 4096 → ℝ) (g : ℝ) (s : EReal) (b : Fin 16) (t : Fin 4096) :
    max (((g : ℝ) : EReal) * Ideal.div (((y b t : ℝ) : EReal) - ((mean y : ℝ) : EReal)) ((Real.sqrt (var y + eps) : ℝ) : EReal)
      + s) (Ideal.ofBits .f32 0x00000000#32) = norm y g s b t := by
  rw [Ideal.ofBits_zero_f32, ← EReal.coe_sub, div_coe' _ _ (sqrt_var_pos y).ne', ← EReal.coe_mul]
  rfl

end Cert.ReferenceIdeal.Norm

end
-- ==== Proof.RefNorm1.lean ====
/-
  The reference's normalisation of the first map read at an index.
-/
module

public import proofs.«01_k».proof.Proof.RefNorm

@[expose] public section

set_option maxRecDepth 16384

noncomputable section

open Idealize.ShloMosaic Idealize.ShloMosaic.TcCoe Idealize.SL.Sem

namespace Cert.ReferenceIdeal.Norm1

open Cert.ReferenceIdeal Cert.ReferenceIdeal.Gen Cert.ReferenceIdeal.Read Cert.Spec Cert.ReferenceIdeal.Norm

variable (x0 : (⟨S16x3x1024, .f32⟩ : BufTy).Contents (Elt Ideal)) (x1 : (⟨S16x3x4096, .f32⟩ : BufTy).Contents (Elt Ideal))
  (x2 : (⟨S16x512x1024, .f32⟩ : BufTy).Contents (Elt Ideal)) (x3 : (⟨S16x256x4096, .f32⟩ : BufTy).Contents (Elt Ideal))
  (x4 : (⟨S512x768, .f32⟩ : BufTy).Contents (Elt Ideal)) (x5 x6 x7 : (⟨S512, .f32⟩ : BufTy).Contents (Elt Ideal))
  (y : Fin 512 → Fin 16 → Fin 4096 → ℝ) (g : Fin 512 → ℝ)
  (hy : ∀ b o t, val_main_v40 (F := Ideal) x0 x1 x2 x3 x4 x5 (ix3 b o t) = ((y o b t : ℝ) : EReal))
  (hg : ∀ o, x6 (ix1 o) = ((g o : ℝ) : EReal))

include hy in
/-- The mean subtracted from the channel. -/
theorem mean_a (b : Fin 16) (o : Fin 512) (t : Fin 4096) :
    val_main_v46 (F := Ideal) x0 x1 x2 x3 x4 x5 (ix3 b o t) = ((mean (y o) : ℝ) : EReal) := by
  rw [val_main_v46_apply, val_main_v44_apply, val_main_v42_apply, val_main_v43_apply, ← mean_read,
    ← channel_sum (val_main_v40 (F := Ideal) x0 x1 x2 x3 x4 x5) (y o) (val_main_cst_7 (F := Ideal))
      reducesTo_S16x512x4096_S512_d0_2 h_S_ o rfl (fun b t => hy b o t)]
  exact congrArg (fun a : EReal => Ideal.div a _) (congrArg (val_main_v41 (F := Ideal) x0 x1 x2 x3 x4 x5) (eq_ix1 _))

include hy in
/-- The mean the deviations are taken from: the same. -/
theorem mean_b (b : Fin 16) (o : Fin 512) (t : Fin 4096) :
    val_main_call1_v4 (F := Ideal) x0 x1 x2 x3 x4 x5 (ix3 b o t) = ((mean (y o) : ℝ) : EReal) := by
  rw [val_main_call1_v4_apply, val_main_call1_v3_apply, val_main_call1_v1_apply, val_main_call1_v2_apply, ← mean_read,
    ← channel_sum (val_main_v40 (F := Ideal) x0 x1 x2 x3 x4 x5) (y o) (val_main_call1_cst (F := Ideal))
      reducesTo_S16x512x4096_S512_d0_2 h_S_ o rfl (fun b t => hy b o t)]
  exact congrArg (fun a : EReal => Ideal.div a _) (congrArg (val_main_call1_v0 (F := Ideal) x0 x1 x2 x3 x4 x5) (eq_ix1 _))

include hy in
/-- A squared deviation. -/
theorem square (b : Fin 16) (o : Fin 512) (t : Fin 4096) :
    val_main_call1_v6 (F := Ideal) x0 x1 x2 x3 x4 x5 (ix3 b o t)
      = (((y o b t - mean (y o)) * (y o b t - mean (y o)) : ℝ) : EReal) := by
  rw [val_main_call1_v6_apply, val_main_call1_v5_apply, mean_b x0 x1 x2 x3 x4 x5 y hy, hy, EReal.coe_mul, EReal.coe_sub]
  rfl

include hy in
/-- The variance. -/
theorem variance (o : Fin 512) :
    val_main_v45 (F := Ideal) x0 x1 x2 x3 x4 x5 (ix3 0 o 0) = ((var (y o) : ℝ) : EReal) := by
  have h12 : val_main_call1_v12 (F := Ideal) x0 x1 x2 x3 x4 x5 (ix3 0 o 0) = ((var (y o) : ℝ) : EReal) := by
    rw [val_main_call1_v12_apply, val_main_call1_v10_apply, val_main_call1_v11_apply, ← var_read,
      ← channel_sum (val_main_call1_v6 (F := Ideal) x0 x1 x2 x3 x4 x5) _ (val_main_call1_cst_2 (F := Ideal))
        reducesTo_S16x512x4096_S512_d0_2 h_S_ o rfl (fun b t => square x0 x1 x2 x3 x4 x5 y hy b o t)]
    exact congrArg (fun a : EReal => Ideal.div a _)
      (congrArg (val_main_call1_v9 (F := Ideal) x0 x1 x2 x3 x4 x5) (eq_ix1 _))
  unfold val_main_v45
  show Scalar.select (broadcastInDim S1x512x1 ![] bcast_S_S1x512x1 (val_main_call1_v13 (F := Ideal)) (ix3 0 o 0))
    (val_main_call1_v12 (F := Ideal) x0 x1 x2 x3 x4 x5 (ix3 0 o 0)) _ = _
  rw [h12, broadcastInDim_apply _ bcast_S_S1x512x1 (val_main_call1_v13 (F := Ideal)) (ix3 0 o 0)
    (idx_main_call1_v11 (ix3 0 o 0)) (fun a => a.elim0),
    show val_main_call1_v13 (F := Ideal) (idx_main_call1_v11 (ix3 0 o 0)) = 1#1 from count_pos]
  rfl

include hy hg in
/-- The first map normalised, scaled, shifted and cut off. -/
theorem normal (b : Fin 16) (o : Fin 512) (t : Fin 4096) :
    val_main_v59 (F := Ideal) x0 x1 x2 x3 x4 x5 x6 x7 (ix3 b o t) = norm (y o) (g o) (x7 (ix1 o)) b t := by
  have h51 : val_main_v51 (F := Ideal) x0 x1 x2 x3 x4 x5 (ix3 b o t) = ((Real.sqrt (var (y o) + eps) : ℝ) : EReal) := by
    have hk : idx_main_v51 (ix3 b o t) = ix3 0 o 0 := eq_ix3 _
    rw [val_main_v51_apply, hk, val_main_v50_apply, val_main_v49_apply, variance x0 x1 x2 x3 x4 x5 y hy,
      val_main_v48_apply, ← deviation_read]
    rfl
  have h52 : val_main_v52 (F := Ideal) x0 x1 x2 x3 x4 x5 (ix3 b o t)
      = Ideal.div (((y o b t : ℝ) : EReal) - ((mean (y o) : ℝ) : EReal)) ((Real.sqrt (var (y o) + eps) : ℝ) : EReal) := by
    rw [val_main_v52_apply, val_main_v47_apply, hy, mean_a x0 x1 x2 x3 x4 x5 y hy, h51]
    rfl
  have h54 : val_main_v54 (F := Ideal) x6 (ix3 b o t) = ((g o : ℝ) : EReal) := by
    rw [val_main_v54_apply, val_main_v53_apply, ← hg]
    exact congrArg x6 (eq_ix1 _)
  have h57 : val_main_v57 (F := Ideal) x7 (ix3 b o t) = x7 (ix1 o) := by
    rw [val_main_v57_apply, val_main_v56_apply]
    exact congrArg x7 (eq_ix1 _)
  rw [val_main_v59_apply, val_main_v58_apply, val_main_v55_apply, h52, h54, h57, val_main_call2_v0_apply, ← norm_read]
  rfl

end Cert.ReferenceIdeal.Norm1

end
-- ==== Proof.RefNorm2.lean ====
/-
  The reference's normalisation of the second map read at an index.
-/
module

public import proofs.«01_k».proof.Proof.RefNorm

@[expose] public section

set_option maxRecDepth 16384

noncomputable section

open Idealize.ShloMosaic Idealize.ShloMosaic.TcCoe Idealize.SL.Sem

namespace Cert.ReferenceIdeal.Norm2

open Cert.ReferenceIdeal Cert.ReferenceIdeal.Gen Cert.ReferenceIdeal.Read Cert.Spec Cert.ReferenceIdeal.Norm

variable (x0 : (⟨S16x3x1024, .f32⟩ : BufTy).Contents (Elt Ideal)) (x1 : (⟨S16x3x4096, .f32⟩ : BufTy).Contents (Elt Ideal))
  (x2 : (⟨S16x512x1024, .f32⟩ : BufTy).Contents (Elt Ideal)) (x3 : (⟨S16x256x4096, .f32⟩ : BufTy).Contents (Elt Ideal))
  (x4 : (⟨S512x768, .f32⟩ : BufTy).Contents (Elt Ideal)) (x5 x6 x7 : (⟨S512, .f32⟩ : BufTy).Contents (Elt Ideal))
  (x8 : (⟨S256x512, .f32⟩ : BufTy).Contents (Elt Ideal)) (x9 x10 x11 : (⟨S256, .f32⟩ : BufTy).Contents (Elt Ideal))
  (y : Fin 256 → Fin 16 → Fin 4096 → ℝ) (g : Fin 256 → ℝ)
  (hy : ∀ b o t, val_main_v64 (F := Ideal) x0 x1 x2 x3 x4 x5 x6 x7 x8 x9 (ix3 b o t) = ((y o b t : ℝ) : EReal))
  (hg : ∀ o, x10 (ix1 o) = ((g o : ℝ) : EReal))

include hy in
/-- The mean subtracted from the channel. -/
theorem mean_a (b : Fin 16) (o : Fin 256) (t : Fin 4096) :
    val_main_v70 (F := Ideal) x0 x1 x2 x3 x4 x5 x6 x7 x8 x9 (ix3 b o t) = ((mean (y o) : ℝ) : EReal) := by
  rw [val_main_v70_apply, val_main_v68_apply, val_main_v66_apply, val_main_v67_apply, ← mean_read,
    ← channel_sum (val_main_v64 (F := Ideal) x0 x1 x2 x3 x4 x5 x6 x7 x8 x9) (y o) (val_main_cst_11 (F := Ideal))
      reducesTo_S16x256x4096_S256_d0_2 h_S_ o rfl (fun b t => hy b o t)]
  exact congrArg (fun a : EReal => Ideal.div a _) (congrArg (val_main_v65 (F := Ideal) x0 x1 x2 x3 x4 x5 x6 x7 x8 x9) (eq_ix1 _))

include hy in
/-- The mean the deviations are taken from: the same. -/
theorem mean_b (b : Fin 16) (o : Fin 256) (t : Fin 4096) :
    val_main_call3_v4 (F := Ideal) x0 x1 x2 x3 x4 x5 x6 x7 x8 x9 (ix3 b o t) = ((mean (y o) : ℝ) : EReal) := by
  rw [val_main_call3_v4_apply, val_main_call3_v3_apply, val_main_call3_v1_apply, val_main_call3_v2_apply, ← mean_read,
    ← channel_sum (val_main_v64 (F := Ideal) x0 x1 x2 x3 x4 x5 x6 x7 x8 x9) (y o) (val_main_call3_cst (F := Ideal))
      reducesTo_S16x256x4096_S256_d0_2 h_S_ o rfl (fun b t => hy b o t)]
  exact congrArg (fun a : EReal => Ideal.div a _) (congrArg (val_main_call3_v0 (F := Ideal) x0 x1 x2 x3 x4 x5 x6 x7 x8 x9) (eq_ix1 _))

include hy in
/-- A squared deviation. -/
theorem square (b : Fin 16) (o : Fin 256) (t : Fin 4096) :
    val_main_call3_v6 (F := Ideal) x0 x1 x2 x3 x4 x5 x6 x7 x8 x9 (ix3 b o t)
      = (((y o b t - mean (y o)) * (y o b t - mean (y o)) : ℝ) : EReal) := by
  rw [val_main_call3_v6_apply, val_main_call3_v5_apply, mean_b x0 x1 x2 x3 x4 x5 x6 x7 x8 x9 y hy, hy, EReal.coe_mul, EReal.coe_sub]
  rfl

include hy in
/-- The variance. -/
theorem variance (o : Fin 256) :
    val_main_v69 (F := Ideal) x0 x1 x2 x3 x4 x5 x6 x7 x8 x9 (ix3 0 o 0) = ((var (y o) : ℝ) : EReal) := by
  have h12 : val_main_call3_v12 (F := Ideal) x0 x1 x2 x3 x4 x5 x6 x7 x8 x9 (ix3 0 o 0) = ((var (y o) : ℝ) : EReal) := by
    rw [val_main_call3_v12_apply, val_main_call3_v10_apply, val_main_call3_v11_apply, ← var_read,
      ← channel_sum (val_main_call3_v6 (F := Ideal) x0 x1 x2 x3 x4 x5 x6 x7 x8 x9) _ (val_main_call3_cst_2 (F := Ideal))
        reducesTo_S16x256x4096_S256_d0_2 h_S_ o rfl (fun b t => square x0 x1 x2 x3 x4 x5 x6 x7 x8 x9 y hy b o t)]
    exact congrArg (fun a : EReal => Ideal.div a _)
      (congrArg (val_main_call3_v9 (F := Ideal) x0 x1 x2 x3 x4 x5 x6 x7 x8 x9) (eq_ix1 _))
  unfold val_main_v69
  show Scalar.select (broadcastInDim S1x256x1 ![] bcast_S_S1x256x1 (val_main_call3_v13 (F := Ideal)) (ix3 0 o 0))
    (val_main_call3_v12 (F := Ideal) x0 x1 x2 x3 x4 x5 x6 x7 x8 x9 (ix3 0 o 0)) _ = _
  rw [h12, broadcastInDim_apply _ bcast_S_S1x256x1 (val_main_call3_v13 (F := Ideal)) (ix3 0 o 0)
    (idx_main_call3_v11 (ix3 0 o 0)) (fun a => a.elim0),
    show val_main_call3_v13 (F := Ideal) (idx_main_call3_v11 (ix3 0 o 0)) = 1#1 from count_pos]
  rfl

include hy hg in
/-- The second map normalised, scaled, shifted and cut off. -/
theorem normal (b : Fin 16) (o : Fin 256) (t : Fin 4096) :
    val_main_v83 (F := Ideal) x0 x1 x2 x3 x4 x5 x6 x7 x8 x9 x10 x11 (ix3 b o t) = norm (y o) (g o) (x11 (ix1 o)) b t := by
  have h51 : val_main_v75 (F := Ideal) x0 x1 x2 x3 x4 x5 x6 x7 x8 x9 (ix3 b o t) = ((Real.sqrt (var (y o) + eps) : ℝ) : EReal) := by
    have hk : idx_main_v75 (ix3 b o t) = ix3 0 o 0 := eq_ix3 _
    rw [val_main_v75_apply, hk, val_main_v74_apply, val_main_v73_apply, variance x0 x1 x2 x3 x4 x5 x6 x7 x8 x9 y hy,
      val_main_v72_apply, ← deviation_read]
    rfl
  have h52 : val_main_v76 (F := Ideal) x0 x1 x2 x3 x4 x5 x6 x7 x8 x9 (ix3 b o t)
      = Ideal.div (((y o b t : ℝ) : EReal) - ((mean (y o) : ℝ) : EReal)) ((Real.sqrt (var (y o) + eps) : ℝ) : EReal) := by
    rw [val_main_v76_apply, val_main_v71_apply, hy, mean_a x0 x1 x2 x3 x4 x5 x6 x7 x8 x9 y hy, h51]
    rfl
  have h54 : val_main_v78 (F := Ideal) x10 (ix3 b o t) = ((g o : ℝ) : EReal) := by
    rw [val_main_v78_apply, val_main_v77_apply, ← hg]
    exact congrArg x10 (eq_ix1 _)
  have h57 : val_main_v81 (F := Ideal) x11 (ix3 b o t) = x11 (ix1 o) := by
    rw [val_main_v81_apply, val_main_v80_apply]
    exact congrArg x11 (eq_ix1 _)
  rw [val_main_v83_apply, val_main_v82_apply, val_main_v79_apply, h52, h54, h57, val_main_call4_v0_apply, ← norm_read]
  rfl

end Cert.ReferenceIdeal.Norm2

end
-- ==== Proof.RefValue.lean ====
/-
  The reference's result read at an index: the second map over the normalised first one, itself normalised.
-/
module

public import proofs.«01_k».proof.Proof.RefFirst
public import proofs.«01_k».proof.Proof.RefNorm1
public import proofs.«01_k».proof.Proof.RefNorm2

@[expose] public section

set_option maxRecDepth 16384

noncomputable section

open Idealize.ShloMosaic Idealize.ShloMosaic.TcCoe Idealize.SL.Sem

namespace Cert.ReferenceIdeal.Result

open Cert.ReferenceIdeal Cert.ReferenceIdeal.Gen Cert.ReferenceIdeal.Read Cert.Spec

/-- The second map, given the first. -/
theorem second_read (x0 : (⟨S16x3x1024, .f32⟩ : BufTy).Contents (Elt Ideal)) (x1 : (⟨S16x3x4096, .f32⟩ : BufTy).Contents (Elt Ideal))
    (x2 : (⟨S16x512x1024, .f32⟩ : BufTy).Contents (Elt Ideal)) (x3 : (⟨S16x256x4096, .f32⟩ : BufTy).Contents (Elt Ideal))
    (x4 : (⟨S512x768, .f32⟩ : BufTy).Contents (Elt Ideal)) (x5 x6 x7 : (⟨S512, .f32⟩ : BufTy).Contents (Elt Ideal))
    (x8 : (⟨S256x512, .f32⟩ : BufTy).Contents (Elt Ideal)) (x9 : (⟨S256, .f32⟩ : BufTy).Contents (Elt Ideal))
    (y : Fin 512 → Fin 16 → Fin 4096 → ℝ) (g s : Fin 512 → ℝ) (w : Fin 256 → Fin 512 → ℝ) (e : Fin 256 → ℝ)
    (hy : ∀ b o t, val_main_v40 (F := Ideal) x0 x1 x2 x3 x4 x5 (ix3 b o t) = ((y o b t : ℝ) : EReal))
    (h6 : ∀ o, x6 (ix1 o) = ((g o : ℝ) : EReal)) (h7 : ∀ o, x7 (ix1 o) = ((s o : ℝ) : EReal))
    (h8 : ∀ o k, x8 (ix2 o k) = ((w o k : ℝ) : EReal)) (h9 : ∀ o, x9 (ix1 o) = ((e o : ℝ) : EReal))
    (b : Fin 16) (o : Fin 256) (t : Fin 4096) :
    val_main_v64 (F := Ideal) x0 x1 x2 x3 x4 x5 x6 x7 x8 x9 (ix3 b o t) = ((second y g s w e o b t : ℝ) : EReal) := by
  have h63 : val_main_v63 (F := Ideal) x9 (ix3 b o t) = ((e o : ℝ) : EReal) := by
    rw [val_main_v63_apply, val_main_v62_apply, ← h9]
    exact congrArg x9 (eq_ix1 _)
  have h60 : val_main_v60 (F := Ideal) x0 x1 x2 x3 x4 x5 x6 x7 x8 (ix3 b t o)
      = ((∑ k, w o k * normR (y k) (g k) (s k) b t : ℝ) : EReal) := by
    rw [val_main_v60_apply, coe_sum]
    refine Finset.sum_congr rfl fun k _ => ?_
    have hl : lidx_main_v60 (ix3 b t o) k = ix3 b k t := eq_ix3 _
    have hr : ridx_main_v60 (ix3 b t o) k = ix2 o k := eq_ix2 _
    rw [hl, hr, h8, Norm1.normal x0 x1 x2 x3 x4 x5 x6 x7 y g hy h6, h7, norm_coe, ← EReal.coe_mul, mul_comm]
  have h61 : val_main_v61 (F := Ideal) x0 x1 x2 x3 x4 x5 x6 x7 x8 (ix3 b o t) = _ :=
    (val_main_v61_apply x0 x1 x2 x3 x4 x5 x6 x7 x8 _).trans
      ((congrArg (val_main_v60 (F := Ideal) x0 x1 x2 x3 x4 x5 x6 x7 x8) (eq_ix3 _)).trans h60)
  rw [val_main_v64_apply, h61, h63]
  unfold second
  rw [EReal.coe_add]
  rfl

end Cert.ReferenceIdeal.Result

end
-- ==== Proof.Reference.lean ====
/-
  The reference's result is the answer.
-/
module

public import proofs.«01_k».proof.Proof.Inputs
public import proofs.«01_k».proof.Proof.RefValue

@[expose] public section

set_option maxRecDepth 16384

noncomputable section

open Idealize.ShloMosaic Idealize.ShloMosaic.TcCoe Idealize.SL.Sem

namespace Cert.ReferenceIdeal.Answer

open Cert.ReferenceIdeal Cert.ReferenceIdeal.Gen Cert.ReferenceIdeal.Read Cert.Spec

/-- The reference's last array, from the numbers its arguments hold. -/
theorem result (x0 : (⟨S16x3x1024, .f32⟩ : BufTy).Contents (Elt Ideal)) (x1 : (⟨S16x3x4096, .f32⟩ : BufTy).Contents (Elt Ideal))
    (x2 : (⟨S16x512x1024, .f32⟩ : BufTy).Contents (Elt Ideal)) (x3 : (⟨S16x256x4096, .f32⟩ : BufTy).Contents (Elt Ideal))
    (x4 : (⟨S512x768, .f32⟩ : BufTy).Contents (Elt Ideal)) (x5 x6 x7 : (⟨S512, .f32⟩ : BufTy).Contents (Elt Ideal))
    (x8 : (⟨S256x512, .f32⟩ : BufTy).Contents (Elt Ideal)) (x9 x10 x11 : (⟨S256, .f32⟩ : BufTy).Contents (Elt Ideal))
    (p : Fin 16 → Fin 3 → Fin 1024 → ℝ) (q : Fin 16 → Fin 3 → Fin 4096 → ℝ)
    (f : Fin 16 → Fin 512 → Fin 1024 → ℝ) (e : Fin 16 → Fin 256 → Fin 4096 → ℝ) (w : Fin 512 → Fin 768 → ℝ)
    (d g s : Fin 512 → ℝ) (v : Fin 256 → Fin 512 → ℝ) (k r : Fin 256 → ℝ)
    (H : Inputs.Holds x0 x1 x2 x3 x4 x5 x6 x7 x8 x9 x10 p q f e w d g s v k r) :
    val_main_v83 (F := Ideal) x0 x1 x2 x3 x4 x5 x6 x7 x8 x9 x10 x11 = Inputs.answer x11 p q f e w d g s v k r := by
  funext i
  refine (congrArg (val_main_v83 (F := Ideal) x0 x1 x2 x3 x4 x5 x6 x7 x8 x9 x10 x11) (eq_ix3 i)).trans ?_
  exact Norm2.normal x0 x1 x2 x3 x4 x5 x6 x7 x8 x9 x10 x11 (second (firstMap p q f e w d) g s v k) r
    (fun b o t => Result.second_read x0 x1 x2 x3 x4 x5 x6 x7 x8 x9 (firstMap p q f e w d) g s v k
      (fun b o t => First.first x0 x1 x2 x3 x4 x5 p q f e w d H.h0 H.h1 H.h2 H.h3 H.h4 H.h5 b o t) H.h6 H.h7 H.h8 H.h9 b o t)
    H.h10 (i 0) (i 1) (i 2)

end Cert.ReferenceIdeal.Answer

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_finite
public import proofs.«01_k».proof.Proof.Reached
public import proofs.«01_k».proof.Proof.Kernel
public import proofs.«01_k».proof.Proof.Reference
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.SL.Sem

/-- The reference runs, leaves its arguments as launched and every semaphore counter at zero. -/
theorem frame_reference : Cert.quiescent_ReferenceIdeal := by
  intro m g _
  exact (θ_run _ _ _).mono (fun r h => ⟨fun c => (h c).2, sem_eq_zero_of_no_sems rfl r.2⟩) (Cert.ReferenceIdeal.Value.run m g)

/-- The one named constant reads `⊤` in the ideal program and its own word in the bit program. -/
theorem preserves : Cert.preserves_Kernel_KernelIdeal :=
  IdealRules.named_const.statement Cert.KernelIdeal.κ "big" .f32 0x7149F2CA#32 ⊤ rfl

section
open Cert.KernelIdeal Cert.KernelIdeal.Gen

/-- Every execution of the kernel ends with the last boundary's contents in its result and its arguments as launched. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v9) = W4 m g c (Proc.devRef .tc main_v9)
      ∧ ∀ a ∈ argRefs, r.2.mem ((c.tc : Thread nD τ).loc a) = m ((c.tc : Thread nD τ).loc a)) :=
  (θ_run _ _ _).mono (fun r h c => ⟨h c _ (mem_uc main_v9 (by decide)), fun a ha =>
    (h c _ (mem_uc a ((by decide : ∀ a ∈ argRefs, ¬ (Proc.devRef .tc a : DevRef τ sig).isScoped) a ha))).trans (W4_args m g c a ha)⟩)
    (Reached.run m g)

end

/-- The kernel's result equals the reference's, element by element, whenever the first eleven arguments are finite. -/
theorem algebraic : Cert.algebraic_KernelIdeal_ReferenceIdeal_pre_finite := by
  intro m g m' g' hp hm
  refine ⟨fun c => Cert.KernelIdeal.Gen.W4 m g c (Proc.devRef .tc Cert.KernelIdeal.main_v9), ?_, ?_⟩
  · refine (θ_run _ _ _).mono (fun r h c => ?_) (kernel_run m g)
    obtain ⟨hv, ha⟩ := h c
    exact ⟨hv, ha _ (by decide), ha _ (by decide), ha _ (by decide), ha _ (by decide), ha _ (by decide), ha _ (by decide),
      ha _ (by decide), ha _ (by decide), ha _ (by decide), ha _ (by decide), ha _ (by decide), ha _ (by decide)⟩
  · refine (θ_run _ _ _).mono (fun r h c => ⟨(h c).1.trans ?_, (h c).2⟩) (Cert.ReferenceIdeal.Value.run m' g')
    obtain ⟨p, q, f, e, w, d, γ, s, v, k, r, H⟩ := Cert.Inputs.exists_holds _ _ _ _ _ _ _ _ _ _ _ _ (hp c)
    refine Eq.trans ?_ (Cert.KernelIdeal.Answer.result m g c p q f e w d γ s v k r H).symm
    refine (Cert.ReferenceIdeal.Read.val_main_v83_eq (StableHlo.launchContents m' c)).trans ?_
    obtain ⟨a0, a1, a2, a3, a4, a5, a6, a7, a8, a9, a10, a11⟩ := hm c
    refine Eq.trans ?_ (Cert.ReferenceIdeal.Answer.result _ _ _ _ _ _ _ _ _ _ _ _ p q f e w d γ s v k r H)
    rw [← a0, ← a1, ← a2, ← a3, ← a4, ← a5, ← a6, ← a7, ← a8, ← a9, ← a10, ← a11]

/-- Everything the certificate claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m g _ => frame_reference m g trivial, preserves, algebraic⟩

end Cert.Proof

end
